-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v37)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v150_4)) (v1 : (c : Dev Cert.Kernel3Ideal.nD) → Buf (Elt Ideal) ((c.tc : Thread Cert.Kernel3Ideal.nD Cert.Kernel3Ideal.τ).loc Cert.Kernel3Ideal.main_v150_5)) (v2 : (c : Dev Cert.Kernel3Ideal.nD) → Buf (Elt Ideal) ((c.tc : Thread Cert.Kernel3Ideal.nD Cert.Kernel3Ideal.τ).loc Cert.Kernel3Ideal.main_v150_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v150_4) = v0 c
          ∧ r.2.mem ((c.tc : Thread Cert.Kernel3Ideal.nD Cert.Kernel3Ideal.τ).loc Cert.Kernel3Ideal.main_v150_5) = v1 c
          ∧ r.2.mem ((c.tc : Thread Cert.Kernel3Ideal.nD Cert.Kernel3Ideal.τ).loc Cert.Kernel3Ideal.main_v150_6) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x4096x4x96 : Shape := ⟨4, ![4, 4096, 4, 96]⟩
abbrev S4x256x4x96 : Shape := ⟨4, ![4, 256, 4, 96]⟩
abbrev S4x256x4x64 : Shape := ⟨4, ![4, 256, 4, 64]⟩
abbrev S4x4096x4x64 : Shape := ⟨4, ![4, 4096, 4, 64]⟩
abbrev S4x4096x256 : Shape := ⟨3, ![4, 4096, 256]⟩
abbrev S4x256x2x64 : Shape := ⟨4, ![4, 256, 2, 64]⟩
abbrev S4x4096x2x64 : Shape := ⟨4, ![4, 4096, 2, 64]⟩
abbrev S_ : Shape := ⟨0, ![]⟩

class Facts : Prop where
  bcast_S_S4x4096x4x96 : S_.BroadcastsInDim S4x4096x4x96 (![] : Fin 0 → Fin S4x4096x4x96.rank)
  bcast_S_S4x256x4x96 : S_.BroadcastsInDim S4x256x4x96 (![] : Fin 0 → Fin S4x256x4x96.rank)
  bcast_S_S4x4096x4x64 : S_.BroadcastsInDim S4x4096x4x64 (![] : Fin 0 → Fin S4x4096x4x64.rank)
  bcast_S_S4x256x2x64 : S_.BroadcastsInDim S4x256x2x64 (![] : Fin 0 → Fin S4x256x2x64.rank)
  bcast_S_S4x4096x2x64 : S_.BroadcastsInDim S4x4096x2x64 (![] : Fin 0 → Fin S4x4096x2x64.rank)

variable [Facts]

def fn {F : FTy → Type} [FloatOps F] (main_arg0 : FVec F S4x4096x4x96 .f32) (main_arg1 : FVec F S4x256x4x96 .f32) (main_arg2 : FVec F S4x4096x4x96 .f32) (main_arg3 : FVec F S4x256x4x64 .f32) (main_arg4 : FVec F S4x4096x4x64 .f32) (main_arg5 : FVec F S4x4096x256 .f32) (main_arg6 : FVec F S4x4096x4x64 .f32) (main_arg7 : FVec F S4x256x2x64 .f32) (main_arg8 : FVec F S4x4096x2x64 .f32) (main_arg9 : FVec F S4x256x2x64 .f32) (main_arg10 : FVec F S4x4096x2x64 .f32) (main_arg11 : FVec F S4x4096x256 .f32) : IVec S4x4096x4x96 1 × IVec S4x256x4x96 1 × IVec S4x4096x4x96 1 × IVec S4x4096x4x64 1 × IVec S4x256x2x64 1 × IVec S4x4096x2x64 1 :=
  let main_v0 : FVec F S4x4096x4x96 .f32 := Host.absf main_arg0
  let main_cst : FVec F S_ .f32 := constant S_ .f32 0x7F800000#32
  let main_v1 : FVec F S4x4096x4x96 .f32 := broadcastInDim S4x4096x4x96 ![] bcast_S_S4x4096x4x96 main_cst
  let main_v2 : IVec S4x4096x4x96 1 := cmpf .olt main_v0 main_v1
  let main_v3 : FVec F S4x256x4x96 .f32 := Host.absf main_arg1
  let main_cst_0 : FVec F S_ .f32 := constant S_ .f32 0x7F800000#32
  let main_v4 : FVec F S4x256x4x96 .f32 := broadcastInDim S4x256x4x96 ![] bcast_S_S4x256x4x96 main_cst_0
  let main_v5 : IVec S4x256x4x96 1 := cmpf .olt main_v3 main_v4
  let main_v6 : FVec F S4x4096x4x96 .f32 := Host.absf main_arg2
  let main_cst_1 : FVec F S_ .f32 := constant S_ .f32 0x7F800000#32
  let main_v7 : FVec F S4x4096x4x96 .f32 := broadcastInDim S4x4096x4x96 ![] bcast_S_S4x4096x4x96 main_cst_1
  let main_v8 : IVec S4x4096x4x96 1 := cmpf .olt main_v6 main_v7
  let main_v9 : FVec F S4x4096x4x64 .f32 := Host.absf main_arg6
  let main_cst_2 : FVec F S_ .f32 := constant S_ .f32 0x7F800000#32
  let main_v10 : FVec F S4x4096x4x64 .f32 := broadcastInDim S4x4096x4x64 ![] bcast_S_S4x4096x4x64 main_cst_2
  let main_v11 : IVec S4x4096x4x64 1 := cmpf .olt main_v9 main_v10
  let main_v12 : FVec F S4x256x2x64 .f32 := Host.absf main_arg7
  let main_cst_3 : FVec F S_ .f32 := constant S_ .f32 0x7F800000#32
  let main_v13 : FVec F S4x256x2x64 .f32 := broadcastInDim S4x256x2x64 ![] bcast_S_S4x256x2x64 main_cst_3
  let main_v14 : IVec S4x256x2x64 1 := cmpf .olt main_v12 main_v13
  let main_v15 : FVec F S4x4096x2x64 .f32 := Host.absf main_arg8
  let main_cst_4 : FVec F S_ .f32 := constant S_ .f32 0x7F800000#32
  let main_v16 : FVec F S4x4096x2x64 .f32 := broadcastInDim S4x4096x2x64 ![] bcast_S_S4x4096x2x64 main_cst_4
  let main_v17 : IVec S4x4096x2x64 1 := cmpf .olt main_v15 main_v16
  (main_v2, main_v5, main_v8, main_v11, main_v14, main_v17)
-- ==== Kernel.lean ====
abbrev S4x4096x4x96 : Shape := ⟨4, ![4, 4096, 4, 96]⟩
abbrev S4x256x4x96 : Shape := ⟨4, ![4, 256, 4, 96]⟩
abbrev S4x256x4x64 : Shape := ⟨4, ![4, 256, 4, 64]⟩
abbrev S4x4096x4x64 : Shape := ⟨4, ![4, 4096, 4, 64]⟩
abbrev S4x4096x256 : Shape := ⟨3, ![4, 4096, 256]⟩
abbrev S4x256x2x64 : Shape := ⟨4, ![4, 256, 2, 64]⟩
abbrev S4x4096x2x64 : Shape := ⟨4, ![4, 4096, 2, 64]⟩
abbrev S_ : Shape := ⟨0, ![]⟩
abbrev S4x4096x4x32 : Shape := ⟨4, ![4, 4096, 4, 32]⟩
abbrev S4x4096x4x128 : Shape := ⟨4, ![4, 4096, 4, 128]⟩
abbrev S4x4096x8x128 : Shape := ⟨4, ![4, 4096, 8, 128]⟩
abbrev S4x256x8x128 : Shape := ⟨4, ![4, 256, 8, 128]⟩
abbrev S4x4352x8x128 : Shape := ⟨4, ![4, 4352, 8, 128]⟩
abbrev S4x4352x4x96 : Shape := ⟨4, ![4, 4352, 4, 96]⟩
abbrev S4x4352x4x32 : Shape := ⟨4, ![4, 4352, 4, 32]⟩
abbrev S4x4352x4x128 : Shape := ⟨4, ![4, 4352, 4, 128]⟩
abbrev S4x4352x2x64 : Shape := ⟨4, ![4, 4352, 2, 64]⟩
abbrev S4x4352x2x1x64 : Shape := ⟨5, ![4, 4352, 2, 1, 64]⟩
abbrev S4x4352x2x2x64 : Shape := ⟨5, ![4, 4352, 2, 2, 64]⟩
abbrev S4x4352x4x64 : Shape := ⟨4, ![4, 4352, 4, 64]⟩
abbrev S4x4352x8x64 : Shape := ⟨4, ![4, 4352, 8, 64]⟩
abbrev S4x4096x512 : Shape := ⟨3, ![4, 4096, 512]⟩
abbrev S4x4096x1024 : Shape := ⟨3, ![4, 4096, 1024]⟩
abbrev S4x256x1024 : Shape := ⟨3, ![4, 256, 1024]⟩
abbrev S4x4352x1024 : Shape := ⟨3, ![4, 4352, 1024]⟩
abbrev S1x1024x256 : Shape := ⟨3, ![1, 1024, 256]⟩
abbrev S1x4352x256 : Shape := ⟨3, ![1, 4352, 256]⟩
abbrev S1x1024x128 : Shape := ⟨3, ![1, 1024, 128]⟩
abbrev S1024x4352 : Shape := ⟨2, ![1024, 4352]⟩
abbrev S1024x128 : Shape := ⟨2, ![1024, 128]⟩
abbrev S1024x1024 : Shape := ⟨2, ![1024, 1024]⟩
abbrev S1x256x128 : Shape := ⟨3, ![1, 256, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 103
  | .vmem => 12
  | .smem => 0
  | _ => 0

abbrev bufTy : (tb : Table) → Fin (tcTables nBuf tb) → BufTy
  | .hbm, ⟨0, _⟩ => ⟨S4x4096x4x96, .f32⟩
  | .hbm, ⟨1, _⟩ => ⟨S4x256x4x96, .f32⟩
  | .hbm, ⟨2, _⟩ => ⟨S4x4096x4x96, .f32⟩
  | .hbm, ⟨3, _⟩ => ⟨S4x256x4x64, .f32⟩
  | .hbm, ⟨4, _⟩ => ⟨S4x4096x4x64, .f32⟩
  | .hbm, ⟨5, _⟩ => ⟨S4x4096x256, .f32⟩
  | .hbm, ⟨6, _⟩ => ⟨S4x4096x4x64, .f32⟩
  | .hbm, ⟨7, _⟩ => ⟨S4x256x2x64, .f32⟩
  | .hbm, ⟨8, _⟩ => ⟨S4x4096x2x64, .f32⟩
  | .hbm, ⟨9, _⟩ => ⟨S4x256x2x64, .f32⟩
  | .hbm, ⟨10, _⟩ => ⟨S4x4096x2x64, .f32⟩
  | .hbm, ⟨11, _⟩ => ⟨S4x4096x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x4096x4x96, .f32⟩
  | .hbm, ⟨27, _⟩ => ⟨S4x4096x4x96, .f32⟩
  | .hbm, ⟨28, _⟩ => ⟨S_, .f32⟩
  | .hbm, ⟨29, _⟩ => ⟨S4x4096x4x32, .f32⟩
  | .hbm, ⟨30, _⟩ => ⟨S4x4096x4x128, .f32⟩
  | .hbm, ⟨31, _⟩ => ⟨S4x4096x4x128, .i32⟩
  | .hbm, ⟨32, _⟩ => ⟨S4x4096x4x128, .i32⟩
  | .hbm, ⟨33, _⟩ => ⟨S_, .i32⟩
  | .hbm, ⟨34, _⟩ => ⟨S4x4096x4x128, .i32⟩
  | .hbm, ⟨35, _⟩ => ⟨S4x4096x4x128, .i32⟩
  | .hbm, ⟨36, _⟩ => ⟨S_, .i32⟩
  | .hbm, ⟨37, _⟩ => ⟨S4x4096x4x128, .i32⟩
  | .hbm, ⟨38, _⟩ => ⟨S4x4096x4x128, .i32⟩
  | .hbm, ⟨39, _⟩ => ⟨S4x4096x4x128, .i1⟩
  | .hbm, ⟨40, _⟩ => ⟨S4x4096x4x64, .f32⟩
  | .hbm, ⟨41, _⟩ => ⟨S4x4096x4x64, .f32⟩
  | .hbm, ⟨42, _⟩ => ⟨S4x4096x4x128, .f32⟩
  | .hbm, ⟨43, _⟩ => ⟨S_, .f32⟩
  | .hbm, ⟨44, _⟩ => ⟨S4x4096x4x128, .f32⟩
  | .hbm, ⟨45, _⟩ => ⟨S4x4096x4x128, .f32⟩
  | .hbm, ⟨46, _⟩ => ⟨S4x4096x8x128, .f32⟩
  | .hbm, ⟨47, _⟩ => ⟨S_, .f32⟩
  | .hbm, ⟨48, _⟩ => ⟨S4x256x8x128, .f32⟩
  | .hbm, ⟨49, _⟩ => ⟨S4x4352x8x128, .f32⟩
  | .hbm, ⟨50, _⟩ => ⟨S4x4352x4x96, .f32⟩
  | .hbm, ⟨51, _⟩ => ⟨S_, .f32⟩
  | .hbm, ⟨52, _⟩ => ⟨S4x4352x4x32, .f32⟩
  | .hbm, ⟨53, _⟩ => ⟨S4x4352x4x128, .f32⟩
  | .hbm, ⟨54, _⟩ => ⟨S4x4352x2x64, .f32⟩
  | .hbm, ⟨55, _⟩ => ⟨S4x4352x2x1x64, .f32⟩
  | .hbm, ⟨56, _⟩ => ⟨S4x4352x2x2x64, .f32⟩
  | .hbm, ⟨57, _⟩ => ⟨S4x4352x4x64, .f32⟩
  | .hbm, ⟨58, _⟩ => ⟨S4x4352x4x128, .f32⟩
  | .hbm, ⟨59, _⟩ => ⟨S4x4352x8x128, .f32⟩
  | .hbm, ⟨60, _⟩ => ⟨S4x4352x4x64, .f32⟩
  | .hbm, ⟨61, _⟩ => ⟨S4x4352x2x64, .f32⟩
  | .hbm, ⟨62, _⟩ => ⟨S4x4352x2x1x64, .f32⟩
  | .hbm, ⟨63, _⟩ => ⟨S4x4352x2x2x64, .f32⟩
  | .hbm, ⟨64, _⟩ => ⟨S4x4352x4x64, .f32⟩
  | .hbm, ⟨65, _⟩ => ⟨S4x4352x8x64, .f32⟩
  | .hbm, ⟨66, _⟩ => ⟨S4x4352x8x128, .i32⟩
  | .hbm, ⟨67, _⟩ => ⟨S4x4352x8x128, .i32⟩
  | .hbm, ⟨68, _⟩ => ⟨S_, .i32⟩
  | .hbm, ⟨69, _⟩ => ⟨S4x4352x8x128, .i32⟩
  | .hbm, ⟨70, _⟩ => ⟨S4x4352x8x128, .i32⟩
  | .hbm, ⟨71, _⟩ => ⟨S_, .i32⟩
  | .hbm, ⟨72, _⟩ => ⟨S4x4352x8x128, .i32⟩
  | .hbm, ⟨73, _⟩ => ⟨S4x4352x8x128, .i32⟩
  | .hbm, ⟨74, _⟩ => ⟨S4x4352x8x128, .i1⟩
  | .hbm, ⟨75, _⟩ => ⟨S4x4352x8x128, .f32⟩
  | .hbm, ⟨76, _⟩ => ⟨S_, .f32⟩
  | .hbm, ⟨77, _⟩ => ⟨S4x4352x8x128, .f32⟩
  | .hbm, ⟨78, _⟩ => ⟨S4x4352x8x128, .f32⟩
  | .hbm, ⟨79, _⟩ => ⟨S4x4096x512, .f32⟩
  | .hbm, ⟨80, _⟩ => ⟨S4x4096x512, .f32⟩
  | .hbm, ⟨81, _⟩ => ⟨S4x4096x512, .f32⟩
  | .hbm, ⟨82, _⟩ => ⟨S_, .f32⟩
  | .hbm, ⟨83, _⟩ => ⟨S4x4096x512, .f32⟩
  | .hbm, ⟨84, _⟩ => ⟨S4x4096x512, .f32⟩
  | .hbm, ⟨85, _⟩ => ⟨S_, .f32⟩
  | .hbm, ⟨86, _⟩ => ⟨S4x4096x512, .f32⟩
  | .hbm, ⟨87, _⟩ => ⟨S4x4096x512, .f32⟩
  | .hbm, ⟨88, _⟩ => ⟨S4x4096x512, .f32⟩
  | .hbm, ⟨89, _⟩ => ⟨S_, .f32⟩
  | .hbm, ⟨90, _⟩ => ⟨S4x4096x512, .f32⟩
  | .hbm, ⟨91, _⟩ => ⟨S4x4096x1024, .f32⟩
  | .hbm, ⟨92, _⟩ => ⟨S_, .f32⟩
  | .hbm, ⟨93, _⟩ => ⟨S4x256x1024, .f32⟩
  | .hbm, ⟨94, _⟩ => ⟨S4x4352x1024, .f32⟩
  | .hbm, ⟨95, _⟩ => ⟨S4x4352x1024, .f32⟩
  | .hbm, ⟨96, _⟩ => ⟨S4x4352x1024, .bf16⟩
  | .hbm, ⟨97, _⟩ => ⟨S4x4352x1024, .f32⟩
  | .hbm, ⟨98, _⟩ => ⟨S4x4352x1024, .bf16⟩
  | .hbm, ⟨99, _⟩ => ⟨S4x4352x1024, .f32⟩
  | .hbm, ⟨100, _⟩ => ⟨S4x4352x1024, .bf16⟩
  | .hbm, ⟨101, _⟩ => ⟨S4x4352x1024, .bf16⟩
  | .hbm, ⟨102, _⟩ => ⟨S4x4096x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1024x4352, .f32⟩
  | .local _ .vmem, ⟨11, _⟩ => ⟨S1024x4352, .f32⟩
  | _, _ => ⟨S4x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_cst_3 : Ref sig .tc := ⟨.hbm, 21, rfl⟩
abbrev main_v5 : Ref sig .tc := ⟨.hbm, 22, rfl⟩
abbrev main_v6 : Ref sig .tc := ⟨.hbm, 23, rfl⟩
abbrev main_cst_4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_6 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_8 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_9 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_10 : Ref sig .tc := ⟨.hbm, 68, rfl⟩
abbrev main_v44 : Ref sig .tc := ⟨.hbm, 69, rfl⟩
abbrev main_v45 : Ref sig .tc := ⟨.hbm, 70, rfl⟩
abbrev main_c_11 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_cst_16 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4096x4x96 : Shape := ⟨4, ![4, 4096, 4, 96]⟩
abbrev S4x256x4x96 : Shape := ⟨4, ![4, 256, 4, 96]⟩
abbrev S4x256x4x64 : Shape := ⟨4, ![4, 256, 4, 64]⟩
abbrev S4x4096x4x64 : Shape := ⟨4, ![4, 4096, 4, 64]⟩
abbrev S4x4096x256 : Shape := ⟨3, ![4, 4096, 256]⟩
abbrev S4x256x2x64 : Shape := ⟨4, ![4, 256, 2, 64]⟩
abbrev S4x4096x2x64 : Shape := ⟨4, ![4, 4096, 2, 64]⟩
abbrev S4x4096x4x1x96 : Shape := ⟨5, ![4, 4096, 4, 1, 96]⟩
abbrev S4x4352x4x96 : Shape := ⟨4, ![4, 4352, 4, 96]⟩
abbrev S4x4352x4x64 : Shape := ⟨4, ![4, 4352, 4, 64]⟩
abbrev S_ : Shape := ⟨0, ![]⟩
abbrev S4x4x4352x4096x1 : Shape := ⟨5, ![4, 4, 4352, 4096, 1]⟩
abbrev S4x4x1x4096x4352 : Shape := ⟨5, ![4, 4, 1, 4096, 4352]⟩
abbrev S4x4x1x4096 : Shape := ⟨4, ![4, 4, 1, 4096]⟩
abbrev S4x4x1x4096x1 : Shape := ⟨5, ![4, 4, 1, 4096, 1]⟩
abbrev S4x4x64x1x4096 : Shape := ⟨5, ![4, 4, 64, 1, 4096]⟩
abbrev S4x4096x4x1x64 : Shape := ⟨5, ![4, 4096, 4, 1, 64]⟩
abbrev S4x4096x2x2x64 : Shape := ⟨5, ![4, 4096, 2, 2, 64]⟩
abbrev S4x4352x2x64 : Shape := ⟨4, ![4, 4352, 2, 64]⟩
abbrev S4x2x4352x4096x2 : Shape := ⟨5, ![4, 2, 4352, 4096, 2]⟩
abbrev S4x2x2x4096x4352 : Shape := ⟨5, ![4, 2, 2, 4096, 4352]⟩
abbrev S4x2x2x4096 : Shape := ⟨4, ![4, 2, 2, 4096]⟩
abbrev S4x2x2x4096x1 : Shape := ⟨5, ![4, 2, 2, 4096, 1]⟩
abbrev S4x2x64x2x4096 : Shape := ⟨5, ![4, 2, 64, 2, 4096]⟩
abbrev S4x4096x512 : Shape := ⟨3, ![4, 4096, 512]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x4x96, .f32⟩
  | .hbm, ⟨1, _⟩ => ⟨S4x256x4x96, .f32⟩
  | .hbm, ⟨2, _⟩ => ⟨S4x4096x4x96, .f32⟩
  | .hbm, ⟨3, _⟩ => ⟨S4x256x4x64, .f32⟩
  | .hbm, ⟨4, _⟩ => ⟨S4x4096x4x64, .f32⟩
  | .hbm, ⟨5, _⟩ => ⟨S4x4096x256, .f32⟩
  | .hbm, ⟨6, _⟩ => ⟨S4x4096x4x64, .f32⟩
  | .hbm, ⟨7, _⟩ => ⟨S4x256x2x64, .f32⟩
  | .hbm, ⟨8, _⟩ => ⟨S4x4096x2x64, .f32⟩
  | .hbm, ⟨9, _⟩ => ⟨S4x256x2x64, .f32⟩
  | .hbm, ⟨10, _⟩ => ⟨S4x4096x2x64, .f32⟩
  | .hbm, ⟨11, _⟩ => ⟨S4x4096x256, .f32⟩
  | .hbm, ⟨12, _⟩ => ⟨S4x4096x4x1x96, .f32⟩
  | .hbm, ⟨13, _⟩ => ⟨S4x4352x4x96, .f32⟩
  | .hbm, ⟨14, _⟩ => ⟨S4x4352x4x64, .f32⟩
  | .hbm, ⟨15, _⟩ => ⟨S_, .f32⟩
  | .hbm, ⟨16, _⟩ => ⟨S_, .f32⟩
  | .hbm, ⟨17, _⟩ => ⟨S4x4x4352x4096x1, .f32⟩
  | .hbm, ⟨18, _⟩ => ⟨S4x4x1x4096x4352, .f32⟩
  | .hbm, ⟨19, _⟩ => ⟨S4x4x1x4096x4352, .f32⟩
  | .hbm, ⟨20, _⟩ => ⟨S4x4x1x4096x4352, .f32⟩
  | .hbm, ⟨21, _⟩ => ⟨S_, .f32⟩
  | .hbm, ⟨22, _⟩ => ⟨S4x4x1x4096, .f32⟩
  | .hbm, ⟨23, _⟩ => ⟨S_, .f32⟩
  | .hbm, ⟨24, _⟩ => ⟨S4x4x1x4096, .f32⟩
  | .hbm, ⟨25, _⟩ => ⟨S4x4x1x4096, .f32⟩
  | .hbm, ⟨26, _⟩ => ⟨S4x4x1x4096x1, .f32⟩
  | .hbm, ⟨27, _⟩ => ⟨S4x4x1x4096x4352, .f32⟩
  | .hbm, ⟨28, _⟩ => ⟨S4x4x1x4096x4352, .f32⟩
  | .hbm, ⟨29, _⟩ => ⟨S4x4x1x4096x4352, .f32⟩
  | .hbm, ⟨30, _⟩ => ⟨S_, .f32⟩
  | .hbm, ⟨31, _⟩ => ⟨S4x4x1x4096, .f32⟩
  | .hbm, ⟨32, _⟩ => ⟨S4x4x1x4096x1, .f32⟩
  | .hbm, ⟨33, _⟩ => ⟨S4x4x1x4096x4352, .f32⟩
  | .hbm, ⟨34, _⟩ => ⟨S4x4x1x4096x4352, .f32⟩
  | .hbm, ⟨35, _⟩ => ⟨S4x4x64x1x4096, .f32⟩
  | .hbm, ⟨36, _⟩ => ⟨S4x4096x4x1x64, .f32⟩
  | .hbm, ⟨37, _⟩ => ⟨S4x4096x256, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096x256, .f32⟩
  | .hbm, ⟨45, _⟩ => ⟨S4x4096x256, .f32⟩
  | .hbm, ⟨46, _⟩ => ⟨S4x4096x256, .f32⟩
  | .hbm, ⟨47, _⟩ => ⟨S4x4096x256, .f32⟩
  | .hbm, ⟨48, _⟩ => ⟨S4x4096x2x2x64, .f32⟩
  | .hbm, ⟨49, _⟩ => ⟨S4x4352x2x64, .f32⟩
  | .hbm, ⟨50, _⟩ => ⟨S4x4352x2x64, .f32⟩
  | .hbm, ⟨51, _⟩ => ⟨S_, .f32⟩
  | .hbm, ⟨52, _⟩ => ⟨S_, .f32⟩
  | .hbm, ⟨53, _⟩ => ⟨S4x2x4352x4096x2, .f32⟩
  | .hbm, ⟨54, _⟩ => ⟨S4x2x2x4096x4352, .f32⟩
  | .hbm, ⟨55, _⟩ => ⟨S4x2x2x4096x4352, .f32⟩
  | .hbm, ⟨56, _⟩ => ⟨S4x2x2x4096x4352, .f32⟩
  | .hbm, ⟨57, _⟩ => ⟨S_, .f32⟩
  | .hbm, ⟨58, _⟩ => ⟨S4x2x2x4096, .f32⟩
  | .hbm, ⟨59, _⟩ => ⟨S_, .f32⟩
  | .hbm, ⟨60, _⟩ => ⟨S4x2x2x4096, .f32⟩
  | .hbm, ⟨61, _⟩ => ⟨S4x2x2x4096, .f32⟩
  | .hbm, ⟨62, _⟩ => ⟨S4x2x2x4096x1, .f32⟩
  | .hbm, ⟨63, _⟩ => ⟨S4x2x2x4096x4352, .f32⟩
  | .hbm, ⟨64, _⟩ => ⟨S4x2x2x4096x4352, .f32⟩
  | .hbm, ⟨65, _⟩ => ⟨S4x2x2x4096x4352, .f32⟩
  | .hbm, ⟨66, _⟩ => ⟨S_, .f32⟩
  | .hbm, ⟨67, _⟩ => ⟨S4x2x2x4096, .f32⟩
  | .hbm, ⟨68, _⟩ => ⟨S4x2x2x4096x1, .f32⟩
  | .hbm, ⟨69, _⟩ => ⟨S4x2x2x4096x4352, .f32⟩
  | .hbm, ⟨70, _⟩ => ⟨S4x2x2x4096x4352, .f32⟩
  | .hbm, ⟨71, _⟩ => ⟨S4x2x64x2x4096, .f32⟩
  | .hbm, ⟨72, _⟩ => ⟨S4x4096x2x2x64, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S_, .f32⟩
  | .hbm, ⟨77, _⟩ => ⟨S4x4096x256, .f32⟩
  | .hbm, ⟨78, _⟩ => ⟨S4x4096x256, .f32⟩
  | .hbm, ⟨79, _⟩ => ⟨S_, .f32⟩
  | .hbm, ⟨80, _⟩ => ⟨S4x4096x256, .f32⟩
  | .hbm, ⟨81, _⟩ => ⟨S4x4096x256, .f32⟩
  | .hbm, ⟨82, _⟩ => ⟨S4x4096x256, .f32⟩
  | .hbm, ⟨83, _⟩ => ⟨S4x4096x256, .f32⟩
  | .hbm, ⟨84, _⟩ => ⟨S4x4096x512, .f32⟩
  | .hbm, ⟨85, _⟩ => ⟨S4x4096x512, .bf16⟩
  | _, _ => ⟨S4x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩

abbrev nD : Nat := 1
abbrev τ : Topo := Topo.v7x

variable {F : FTy → Type} [FloatOps F]
-- ==== Kernel2.lean ====
abbrev S4x4096x256 : Shape := ⟨3, ![4, 4096, 256]⟩
abbrev S4x4096x1024 : Shape := ⟨3, ![4, 4096, 1024]⟩
abbrev S4x3072 : Shape := ⟨2, ![4, 3072]⟩
abbrev S4x256 : Shape := ⟨2, ![4, 256]⟩
abbrev S4x1024x1024 : Shape := ⟨3, ![4, 1024, 1024]⟩
abbrev S1024 : Shape := ⟨1, ![1024]⟩
abbrev S4x4096x512 : Shape := ⟨3, ![4, 4096, 512]⟩
abbrev S_ : Shape := ⟨0, ![]⟩
abbrev S4x4096x768 : Shape := ⟨3, ![4, 4096, 768]⟩
abbrev S4x256x1024 : Shape := ⟨3, ![4, 256, 1024]⟩
abbrev S4x4352x1024 : Shape := ⟨3, ![4, 4352, 1024]⟩
abbrev S4x3x1024 : Shape := ⟨3, ![4, 3, 1024]⟩
abbrev S8x3x1024 : Shape := ⟨3, ![8, 3, 1024]⟩
abbrev S3x8x3x1024 : Shape := ⟨4, ![3, 8, 3, 1024]⟩
abbrev S1x8x3x1024 : Shape := ⟨4, ![1, 8, 3, 1024]⟩
abbrev S4x8x3x1024 : Shape := ⟨4, ![4, 8, 3, 1024]⟩
abbrev S4x1x256 : Shape := ⟨3, ![4, 1, 256]⟩
abbrev S4x6x256 : Shape := ⟨3, ![4, 6, 256]⟩
abbrev S4x8x256 : Shape := ⟨3, ![4, 8, 256]⟩
abbrev S4x256x256 : Shape := ⟨3, ![4, 256, 256]⟩
abbrev S4x4352x256 : Shape := ⟨3, ![4, 4352, 256]⟩
abbrev S1x1024 : Shape := ⟨2, ![1, 1024]⟩
abbrev S4x256x512 : Shape := ⟨3, ![4, 256, 512]⟩
abbrev S1x4x3x1024 : Shape := ⟨4, ![1, 4, 3, 1024]⟩
abbrev S1x8x256 : Shape := ⟨3, ![1, 8, 256]⟩
abbrev S1x1024x1024 : Shape := ⟨3, ![1, 1024, 1024]⟩
abbrev S1x256x512 : Shape := ⟨3, ![1, 256, 512]⟩
abbrev S256x512 : Shape := ⟨2, ![256, 512]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x1x256 : Shape := ⟨3, ![1, 1, 256]⟩
abbrev S1x256 : Shape := ⟨2, ![1, 256]⟩
abbrev S1024x512 : Shape := ⟨2, ![1024, 512]⟩
abbrev S1x512x1024 : Shape := ⟨3, ![1, 512, 1024]⟩
abbrev S512x1024 : Shape := ⟨2, ![512, 1024]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩
abbrev S1x1x1x1024 : Shape := ⟨4, ![1, 1, 1, 1024]⟩

abbrev nBuf : Space → Nat
  | .hbm => 61
  | .vmem => 19
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x4096x1024, .f32⟩
  | .hbm, ⟨7, _⟩ => ⟨S4x3072, .f32⟩
  | .hbm, ⟨8, _⟩ => ⟨S4x256, .f32⟩
  | .hbm, ⟨9, _⟩ => ⟨S4x1024x1024, .f32⟩
  | .hbm, ⟨10, _⟩ => ⟨S1024, .f32⟩
  | .hbm, ⟨11, _⟩ => ⟨S4x4096x512, .f32⟩
  | .hbm, ⟨12, _⟩ => ⟨S4x4096x512, .bf16⟩
  | .hbm, ⟨13, _⟩ => ⟨S_, .f32⟩
  | .hbm, ⟨14, _⟩ => ⟨S4x4096x768, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S4x4096x1024, .f32⟩
  | .hbm, ⟨25, _⟩ => ⟨S_, .f32⟩
  | .hbm, ⟨26, _⟩ => ⟨S4x256x1024, .f32⟩
  | .hbm, ⟨27, _⟩ => ⟨S4x4352x1024, .f32⟩
  | .hbm, ⟨28, _⟩ => ⟨S4x4352x1024, .bf16⟩
  | .hbm, ⟨29, _⟩ => ⟨S4x3x1024, .f32⟩
  | .hbm, ⟨30, _⟩ => ⟨S_, .f32⟩
  | .hbm, ⟨31, _⟩ => ⟨S4x3x1024, .f32⟩
  | .hbm, ⟨32, _⟩ => ⟨S8x3x1024, .f32⟩
  | .hbm, ⟨33, _⟩ => ⟨S_, .f32⟩
  | .hbm, ⟨34, _⟩ => ⟨S3x8x3x1024, .f32⟩
  | .hbm, ⟨35, _⟩ => ⟨S1x8x3x1024, .f32⟩
  | .hbm, ⟨36, _⟩ => ⟨S4x8x3x1024, .f32⟩
  | .hbm, ⟨37, _⟩ => ⟨S_, .f32⟩
  | .hbm, ⟨38, _⟩ => ⟨S4x1x256, .f32⟩
  | .hbm, ⟨39, _⟩ => ⟨S4x1x256, .f32⟩
  | .hbm, ⟨40, _⟩ => ⟨S_, .f32⟩
  | .hbm, ⟨41, _⟩ => ⟨S4x6x256, .f32⟩
  | .hbm, ⟨42, _⟩ => ⟨S4x8x256, .f32⟩
  | .hbm, ⟨43, _⟩ => ⟨S_, .f32⟩
  | .hbm, ⟨44, _⟩ => ⟨S4x256x256, .f32⟩
  | .hbm, ⟨45, _⟩ => ⟨S4x4352x256, .f32⟩
  | .hbm, ⟨46, _⟩ => ⟨S4x4352x256, .bf16⟩
  | .hbm, ⟨47, _⟩ => ⟨S_, .f32⟩
  | .hbm, ⟨48, _⟩ => ⟨S4x256x256, .f32⟩
  | .hbm, ⟨49, _⟩ => ⟨S4x4352x256, .f32⟩
  | .hbm, ⟨50, _⟩ => ⟨S4x4352x256, .bf16⟩
  | .hbm, ⟨51, _⟩ => ⟨S_, .f32⟩
  | .hbm, ⟨52, _⟩ => ⟨S4x256x256, .f32⟩
  | .hbm, ⟨53, _⟩ => ⟨S4x4352x256, .f32⟩
  | .hbm, ⟨54, _⟩ => ⟨S4x4352x256, .bf16⟩
  | .hbm, ⟨55, _⟩ => ⟨S_, .f32⟩
  | .hbm, ⟨56, _⟩ => ⟨S4x256x1024, .f32⟩
  | .hbm, ⟨57, _⟩ => ⟨S4x4352x1024, .f32⟩
  | .hbm, ⟨58, _⟩ => ⟨S4x1024x1024, .bf16⟩
  | .hbm, ⟨59, _⟩ => ⟨S1x1024, .f32⟩
  | .hbm, ⟨60, _⟩ => ⟨S4x4096x1024, .f32⟩
  | .local _ .vmem, ⟨0, _⟩ => ⟨S4x256x512, .bf16⟩
  | .local _ .vmem, ⟨1, _⟩ => ⟨S4x256x512, .bf16⟩
  | .local _ .vmem, ⟨2, _⟩ => ⟨S4x256x256, .bf16⟩
  | .local _ .vmem, ⟨3, _⟩ => ⟨S4x256x256, .bf16⟩
  | .local _ .vmem, ⟨4, _⟩ => ⟨S4x256x256, .bf16⟩
  | .local _ .vmem, ⟨5, _⟩ => ⟨S4x256x256, .bf16⟩
  | .local _ .vmem, ⟨6, _⟩ => ⟨S4x256x256, .bf16⟩
  | .local _ .vmem, ⟨7, _⟩ => ⟨S4x256x256, .bf16⟩
  | .local _ .vmem, ⟨8, _⟩ => ⟨S4x256x256, .bf16⟩
  | .local _ .vmem, ⟨9, _⟩ => ⟨S4x256x256, .bf16⟩
  | .local _ .vmem, ⟨10, _⟩ => ⟨S4x256x1024, .f32⟩
  | .local _ .vmem, ⟨11, _⟩ => ⟨S4x256x1024, .f32⟩
  | .local _ .vmem, ⟨12, _⟩ => ⟨S1x4x3x1024, .f32⟩
  | .local _ .vmem, ⟨13, _⟩ => ⟨S1x4x3x1024, .f32⟩
  | .local _ .vmem, ⟨14, _⟩ => ⟨S1x8x256, .f32⟩
  | .local _ .vmem, ⟨15, _⟩ => ⟨S1x1024x1024, .bf16⟩
  | .local _ .vmem, ⟨16, _⟩ => ⟨S1x1024, .f32⟩
  | .local _ .vmem, ⟨17, _⟩ => ⟨S4x256x1024, .f32⟩
  | .local _ .vmem, ⟨18, _⟩ => ⟨S4x256x1024, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c1_i32 : BitVec 32 := 1#32
  let v1 : BitVec 32 := Scalar.select v0 arg0 c1_i32
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S4x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x4096x256 : Shape := ⟨3, ![4, 4096, 256]⟩
abbrev S4x4096x1024 : Shape := ⟨3, ![4, 4096, 1024]⟩
abbrev S4x3072 : Shape := ⟨2, ![4, 3072]⟩
abbrev S4x256 : Shape := ⟨2, ![4, 256]⟩
abbrev S4x1024x1024 : Shape := ⟨3, ![4, 1024, 1024]⟩
abbrev S1024 : Shape := ⟨1, ![1024]⟩
abbrev S4x1024 : Shape := ⟨2, ![4, 1024]⟩
abbrev S_ : Shape := ⟨0, ![]⟩
abbrev S1x256 : Shape := ⟨2, ![1, 256]⟩
abbrev S256 : Shape := ⟨1, ![256]⟩
abbrev S4x4096 : Shape := ⟨2, ![4, 4096]⟩
abbrev S4x4096x1 : Shape := ⟨3, ![4, 4096, 1]⟩
abbrev S1x1x256 : Shape := ⟨3, ![1, 1, 256]⟩
abbrev S4x1x1024 : Shape := ⟨3, ![4, 1, 1024]⟩
abbrev S1x1024x1024 : Shape := ⟨3, ![1, 1024, 1024]⟩
abbrev S1024x1024 : Shape := ⟨2, ![1024, 1024]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S4x4096x256, .f32⟩
  | .hbm, ⟨4, _⟩ => ⟨S4x4096x256, .f32⟩
  | .hbm, ⟨5, _⟩ => ⟨S4x4096x256, .f32⟩
  | .hbm, ⟨6, _⟩ => ⟨S4x4096x1024, .f32⟩
  | .hbm, ⟨7, _⟩ => ⟨S4x3072, .f32⟩
  | .hbm, ⟨8, _⟩ => ⟨S4x256, .f32⟩
  | .hbm, ⟨9, _⟩ => ⟨S4x1024x1024, .f32⟩
  | .hbm, ⟨10, _⟩ => ⟨S1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x4096x256, .f32⟩
  | .hbm, ⟨15, _⟩ => ⟨S4x4096x256, .f32⟩
  | .hbm, ⟨16, _⟩ => ⟨S4x4096x256, .f32⟩
  | .hbm, ⟨17, _⟩ => ⟨S_, .f32⟩
  | .hbm, ⟨18, _⟩ => ⟨S4x4096x256, .f32⟩
  | .hbm, ⟨19, _⟩ => ⟨S4x4096x256, .f32⟩
  | .hbm, ⟨20, _⟩ => ⟨S_, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S4x4096x256, .f32⟩
  | .hbm, ⟨25, _⟩ => ⟨S1x256, .f32⟩
  | .hbm, ⟨26, _⟩ => ⟨S256, .f32⟩
  | .hbm, ⟨27, _⟩ => ⟨S4x4096x256, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x256, .f32⟩
  | .hbm, ⟨39, _⟩ => ⟨S4x4096x256, .f32⟩
  | .hbm, ⟨40, _⟩ => ⟨S1x1x256, .f32⟩
  | .hbm, ⟨41, _⟩ => ⟨S4x4096x256, .f32⟩
  | .hbm, ⟨42, _⟩ => ⟨S4x4096x256, .f32⟩
  | .hbm, ⟨43, _⟩ => ⟨S4x1x1024, .f32⟩
  | .hbm, ⟨44, _⟩ => ⟨S4x4096x1024, .f32⟩
  | .hbm, ⟨45, _⟩ => ⟨S1x1024x1024, .f32⟩
  | .hbm, ⟨46, _⟩ => ⟨S1024x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x256x1024 : Shape := ⟨3, ![4, 256, 1024]⟩
abbrev S4x3072 : Shape := ⟨2, ![4, 3072]⟩
abbrev S3072 : Shape := ⟨1, ![3072]⟩
abbrev S4x1024 : Shape := ⟨2, ![4, 1024]⟩
abbrev S4x1024x3240 : Shape := ⟨3, ![4, 1024, 3240]⟩
abbrev S4x256 : Shape := ⟨2, ![4, 256]⟩
abbrev S4x128 : Shape := ⟨2, ![4, 128]⟩
abbrev S4x256x384 : Shape := ⟨3, ![4, 256, 384]⟩
abbrev S4x128x512 : Shape := ⟨3, ![4, 128, 512]⟩
abbrev S4x64 : Shape := ⟨2, ![4, 64]⟩
abbrev S4x2x4 : Shape := ⟨3, ![4, 2, 4]⟩
abbrev S128 : Shape := ⟨1, ![128]⟩
abbrev S8x3072 : Shape := ⟨2, ![8, 3072]⟩
abbrev S1x8x3072 : Shape := ⟨3, ![1, 8, 3072]⟩
abbrev S4x8x3072 : Shape := ⟨3, ![4, 8, 3072]⟩
abbrev S4x8x3x1024 : Shape := ⟨4, ![4, 8, 3, 1024]⟩
abbrev S_ : Shape := ⟨0, ![]⟩
abbrev S4x1024x3328 : Shape := ⟨3, ![4, 1024, 3328]⟩
abbrev S4x1024x384 : Shape := ⟨3, ![4, 1024, 384]⟩
abbrev S4x1024x8 : Shape := ⟨3, ![4, 1024, 8]⟩
abbrev S4x1024x32 : Shape := ⟨3, ![4, 1024, 32]⟩
abbrev S4x1024x2816 : Shape := ⟨3, ![4, 1024, 2816]⟩
abbrev S4x256x4x96 : Shape := ⟨4, ![4, 256, 4, 96]⟩
abbrev S4x256x4x128 : Shape := ⟨4, ![4, 256, 4, 128]⟩
abbrev S4x256x512 : Shape := ⟨3, ![4, 256, 512]⟩
abbrev S4x128x4x128 : Shape := ⟨4, ![4, 128, 4, 128]⟩
abbrev S4x128x4x64 : Shape := ⟨4, ![4, 128, 4, 64]⟩
abbrev S4x128x256 : Shape := ⟨3, ![4, 128, 256]⟩
abbrev S4x128x768 : Shape := ⟨3, ![4, 128, 768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S128x1 : Shape := ⟨2, ![128, 1]⟩
abbrev S4096x128 : Shape := ⟨2, ![4096, 128]⟩
abbrev S16 : Shape := ⟨1, ![16]⟩
abbrev S1x16 : Shape := ⟨2, ![1, 16]⟩
abbrev S4096x32 : Shape := ⟨2, ![4096, 32]⟩
abbrev S256x128 : Shape := ⟨2, ![256, 128]⟩
abbrev S4352x128 : Shape := ⟨2, ![4352, 128]⟩
abbrev S1x4352x128 : Shape := ⟨3, ![1, 4352, 128]⟩
abbrev S6x4352x128 : Shape := ⟨3, ![6, 4352, 128]⟩
abbrev S1x4x1x64 : Shape := ⟨4, ![1, 4, 1, 64]⟩
abbrev S1x4x4x64 : Shape := ⟨4, ![1, 4, 4, 64]⟩
abbrev S1x4x2x64 : Shape := ⟨4, ![1, 4, 2, 64]⟩
abbrev S4x8 : Shape := ⟨2, ![4, 8]⟩
abbrev S4x1x256 : Shape := ⟨3, ![4, 1, 256]⟩
abbrev S4x5x256 : Shape := ⟨3, ![4, 5, 256]⟩
abbrev S4x8x256 : Shape := ⟨3, ![4, 8, 256]⟩
abbrev S4x4352x1024 : Shape := ⟨3, ![4, 4352, 1024]⟩
abbrev S4x1x1024 : Shape := ⟨3, ![4, 1, 1024]⟩
abbrev S4x4352x768 : Shape := ⟨3, ![4, 4352, 768]⟩
abbrev S4x4352x128 : Shape := ⟨3, ![4, 4352, 128]⟩
abbrev S2x256x1024 : Shape := ⟨3, ![2, 256, 1024]⟩
abbrev S1x2x3x1024 : Shape := ⟨4, ![1, 2, 3, 1024]⟩
abbrev S1x1x1024 : Shape := ⟨3, ![1, 1, 1024]⟩
abbrev S1x1024x3328 : Shape := ⟨3, ![1, 1024, 3328]⟩
abbrev S1x256x512 : Shape := ⟨3, ![1, 256, 512]⟩
abbrev S1x128x768 : Shape := ⟨3, ![1, 128, 768]⟩
abbrev S1x8x256 : Shape := ⟨3, ![1, 8, 256]⟩
abbrev S6x256x128 : Shape := ⟨3, ![6, 256, 128]⟩
abbrev S2x256x768 : Shape := ⟨3, ![2, 256, 768]⟩
abbrev S2x256x128 : Shape := ⟨3, ![2, 256, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S1x1x1x1024 : Shape := ⟨4, ![1, 1, 1, 1024]⟩
abbrev S512x1024 : Shape := ⟨2, ![512, 1024]⟩
abbrev S1x256x128 : Shape := ⟨3, ![1, 256, 128]⟩
abbrev S1x1024x768 : Shape := ⟨3, ![1, 1024, 768]⟩
abbrev S1024x768 : Shape := ⟨2, ![1024, 768]⟩
abbrev S512x768 : Shape := ⟨2, ![512, 768]⟩
abbrev S512x256 : Shape := ⟨2, ![512, 256]⟩
abbrev S512 : Shape := ⟨1, ![512]⟩
abbrev S512x1 : Shape := ⟨2, ![512, 1]⟩
abbrev S1x1x256 : Shape := ⟨3, ![1, 1, 256]⟩
abbrev S1x256 : Shape := ⟨2, ![1, 256]⟩
abbrev S256x512 : Shape := ⟨2, ![256, 512]⟩
abbrev S512x512 : Shape := ⟨2, ![512, 512]⟩
abbrev S512x128 : Shape := ⟨2, ![512, 128]⟩
abbrev S1x1x128 : Shape := ⟨3, ![1, 1, 128]⟩
abbrev S1x128 : Shape := ⟨2, ![1, 128]⟩
abbrev S128x768 : Shape := ⟨2, ![128, 768]⟩
abbrev S256x768 : Shape := ⟨2, ![256, 768]⟩
abbrev S256x256 : Shape := ⟨2, ![256, 256]⟩
abbrev S1x256x256 : Shape := ⟨3, ![1, 256, 256]⟩
abbrev S1x1024x1024 : Shape := ⟨3, ![1, 1024, 1024]⟩
abbrev S1024x1024 : Shape := ⟨2, ![1024, 1024]⟩
abbrev S1x256x768 : Shape := ⟨3, ![1, 256, 768]⟩

abbrev nBuf : Space → Nat
  | .hbm => 243
  | .vmem => 25
  | .smem => 0
  | _ => 0

abbrev hbmTy0_0 (i : Nat) : BufTy := match i % 128 with
  | 0 => ⟨S4x4096x1024, .f32⟩
  | 1 => ⟨S4x256x1024, .f32⟩
  | 2 => ⟨S4x3072, .f32⟩
  | 3 => ⟨S3072, .f32⟩
  | 4 => ⟨S4x1024, .f32⟩
  | 5 => ⟨S4x1024x3240, .f32⟩
  | 6 => ⟨S4x256, .f32⟩
  | 7 => ⟨S4x128, .f32⟩
  | 8 => ⟨S4x256x384, .f32⟩
  | 9 => ⟨S4x128x512, .f32⟩
  | 10 => ⟨S4x64, .f32⟩
  | 11 => ⟨S4x64, .f32⟩
  | 12 => ⟨S4x2x4, .f32⟩
  | 13 => ⟨S128, .i32⟩
  | 14 => ⟨S128, .i1⟩
  | 15 => ⟨S128, .i1⟩
  | 16 => ⟨S128, .i1⟩
  | 17 => ⟨S128, .i1⟩
  | 18 => ⟨S128, .i1⟩
  | 19 => ⟨S128, .i1⟩
  | 20 => ⟨S128, .i32⟩
  | 21 => ⟨S128, .i1⟩
  | 22 => ⟨S128, .i1⟩
  | 23 => ⟨S128, .i1⟩
  | 24 => ⟨S128, .i1⟩
  | 25 => ⟨S4x3072, .f32⟩
  | 26 => ⟨S8x3072, .f32⟩
  | 27 => ⟨S1x8x3072, .f32⟩
  | 28 => ⟨S4x8x3072, .f32⟩
  | 29 => ⟨S4x8x3x1024, .f32⟩
  | 30 => ⟨S_, .bf16⟩
  | 31 => ⟨S4x1024x3328, .bf16⟩
  | 32 => ⟨S4x1024x384, .f32⟩
  | 33 => ⟨S4x1024x384, .bf16⟩
  | 34 => ⟨S_, .i32⟩
  | 35 => ⟨S_, .i32⟩
  | 36 => ⟨S_, .i32⟩
  | 37 => ⟨S4x1024x3328, .bf16⟩
  | 38 => ⟨S4x1024x8, .f32⟩
  | 39 => ⟨S4x1024x8, .bf16⟩
  | 40 => ⟨S_, .i32⟩
  | 41 => ⟨S_, .i32⟩
  | 42 => ⟨S_, .i32⟩
  | 43 => ⟨S4x1024x3328, .bf16⟩
  | 44 => ⟨S4x1024x32, .f32⟩
  | 45 => ⟨S4x1024x32, .bf16⟩
  | 46 => ⟨S_, .i32⟩
  | 47 => ⟨S_, .i32⟩
  | 48 => ⟨S_, .i32⟩
  | 49 => ⟨S4x1024x3328, .bf16⟩
  | 50 => ⟨S4x1024x2816, .f32⟩
  | 51 => ⟨S4x1024x2816, .bf16⟩
  | 52 => ⟨S_, .i32⟩
  | 53 => ⟨S_, .i32⟩
  | 54 => ⟨S_, .i32⟩
  | 55 => ⟨S4x1024x3328, .bf16⟩
  | 56 => ⟨S4x256x4x96, .f32⟩
  | 57 => ⟨S_, .i32⟩
  | 58 => ⟨S_, .f32⟩
  | 59 => ⟨S4x256x4x128, .f32⟩
  | 60 => ⟨S4x256x512, .f32⟩
  | 61 => ⟨S4x128x4x128, .f32⟩
  | 62 => ⟨S4x128x4x64, .f32⟩
  | 63 => ⟨S_, .i32⟩
  | 64 => ⟨S_, .f32⟩
  | 65 => ⟨S4x128x4x128, .f32⟩
  | 66 => ⟨S4x128x512, .f32⟩
  | 67 => ⟨S4x128x4x64, .f32⟩
  | 68 => ⟨S4x128x256, .f32⟩
  | 69 => ⟨S4x256x512, .bf16⟩
  | 70 => ⟨S4x128x768, .f32⟩
  | 71 => ⟨S4x128x768, .bf16⟩
  | 72 => ⟨S64, .f32⟩
  | 73 => ⟨S64x64, .f32⟩
  | 74 => ⟨S4096, .f32⟩
  | 75 => ⟨S64, .f32⟩
  | 76 => ⟨S1x64, .f32⟩
  | 77 => ⟨S64x64, .f32⟩
  | 78 => ⟨S4096, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S4096x1, .f32⟩
  | 88 => ⟨S1x8, .f32⟩
  | 89 => ⟨S4096x8, .f32⟩
  | 90 => ⟨S4096x8, .f32⟩
  | 91 => ⟨S4096x8, .f32⟩
  | 92 => ⟨S4096x1, .f32⟩
  | 93 => ⟨S1x8, .f32⟩
  | 94 => ⟨S4096x8, .f32⟩
  | 95 => ⟨S4096x8, .f32⟩
  | 96 => ⟨S4096x8, .f32⟩
  | 97 => ⟨S4096x16, .f32⟩
  | 98 => ⟨S4096x16, .f32⟩
  | 99 => ⟨S4096x16, .f32⟩
  | 100 => ⟨S_, .i32⟩
  | 101 => ⟨S128, .i32⟩
  | 102 => ⟨S128, .i32⟩
  | 103 => ⟨S128, .i32⟩
  | 104 => ⟨S128x1, .i32⟩
  | 105 => ⟨S4096x128, .f32⟩
  | 106 => ⟨S_, .f32⟩
  | 107 => ⟨S_, .f32⟩
  | 108 => ⟨S4096x128, .i1⟩
  | 109 => ⟨S4096x128, .f32⟩
  | 110 => ⟨S4096x128, .f32⟩
  | 111 => ⟨S_, .i32⟩
  | 112 => ⟨S128, .i32⟩
  | 113 => ⟨S128, .i32⟩
  | 114 => ⟨S128, .i32⟩
  | 115 => ⟨S128x1, .i32⟩
  | 116 => ⟨S4096x128, .f32⟩
  | 117 => ⟨S4096x128, .f32⟩
  | 118 => ⟨S_, .f32⟩
  | 119 => ⟨S_, .f32⟩
  | 120 => ⟨S4096x128, .i1⟩
  | 121 => ⟨S4096x128, .f32⟩
  | 122 => ⟨S4096x128, .f32⟩
  | 123 => ⟨S_, .i32⟩
  | 124 => ⟨S128, .i32⟩
  | 125 => ⟨S128, .i32⟩
  | 126 => ⟨S128, .i32⟩
  | 127 => ⟨S128x1, .i32⟩
  | _ => ⟨S4x4096x1024, .f32⟩

abbrev hbmTy0_1 (i : Nat) : BufTy := match i % 128 with
  | 0 => ⟨S4096x128, .f32⟩
  | 1 => ⟨S_, .f32⟩
  | 2 => ⟨S_, .f32⟩
  | 3 => ⟨S4096x128, .i1⟩
  | 4 => ⟨S4096x128, .f32⟩
  | 5 => ⟨S4096x128, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S4096x1, .f32⟩
  | 15 => ⟨S1x16, .f32⟩
  | 16 => ⟨S4096x16, .f32⟩
  | 17 => ⟨S4096x16, .f32⟩
  | 18 => ⟨S4096x16, .f32⟩
  | 19 => ⟨S4096x1, .f32⟩
  | 20 => ⟨S1x16, .f32⟩
  | 21 => ⟨S4096x16, .f32⟩
  | 22 => ⟨S4096x16, .f32⟩
  | 23 => ⟨S4096x16, .f32⟩
  | 24 => ⟨S4096x32, .f32⟩
  | 25 => ⟨S4096x32, .f32⟩
  | 26 => ⟨S4096x32, .f32⟩
  | 27 => ⟨S_, .i32⟩
  | 28 => ⟨S128, .i32⟩
  | 29 => ⟨S128, .i32⟩
  | 30 => ⟨S128, .i32⟩
  | 31 => ⟨S128x1, .i32⟩
  | 32 => ⟨S4096x128, .f32⟩
  | 33 => ⟨S_, .i32⟩
  | 34 => ⟨S128, .i32⟩
  | 35 => ⟨S128, .i32⟩
  | 36 => ⟨S128, .i32⟩
  | 37 => ⟨S128x1, .i32⟩
  | 38 => ⟨S4096x128, .f32⟩
  | 39 => ⟨S4096x128, .f32⟩
  | 40 => ⟨S_, .f32⟩
  | 41 => ⟨S_, .f32⟩
  | 42 => ⟨S4096x128, .i1⟩
  | 43 => ⟨S4096x128, .f32⟩
  | 44 => ⟨S4096x128, .f32⟩
  | 45 => ⟨S_, .i32⟩
  | 46 => ⟨S128, .i32⟩
  | 47 => ⟨S128, .i32⟩
  | 48 => ⟨S128, .i32⟩
  | 49 => ⟨S128x1, .i32⟩
  | 50 => ⟨S4096x128, .f32⟩
  | 51 => ⟨S_, .f32⟩
  | 52 => ⟨S_, .f32⟩
  | 53 => ⟨S4096x128, .i1⟩
  | 54 => ⟨S4096x128, .f32⟩
  | 55 => ⟨S4096x128, .f32⟩
  | 56 => ⟨S_, .f32⟩
  | 57 => ⟨S256x128, .f32⟩
  | 58 => ⟨S4352x128, .f32⟩
  | 59 => ⟨S_, .f32⟩
  | 60 => ⟨S256x128, .f32⟩
  | 61 => ⟨S4352x128, .f32⟩
  | 62 => ⟨S_, .f32⟩
  | 63 => ⟨S256x128, .f32⟩
  | 64 => ⟨S4352x128, .f32⟩
  | 65 => ⟨S_, .f32⟩
  | 66 => ⟨S256x128, .f32⟩
  | 67 => ⟨S4352x128, .f32⟩
  | 68 => ⟨S_, .f32⟩
  | 69 => ⟨S256x128, .f32⟩
  | 70 => ⟨S4352x128, .f32⟩
  | 71 => ⟨S_, .f32⟩
  | 72 => ⟨S256x128, .f32⟩
  | 73 => ⟨S4352x128, .f32⟩
  | 74 => ⟨S1x4352x128, .f32⟩
  | 75 => ⟨S1x4352x128, .f32⟩
  | 76 => ⟨S1x4352x128, .f32⟩
  | 77 => ⟨S1x4352x128, .f32⟩
  | 78 => ⟨S1x4352x128, .f32⟩
  | 79 => ⟨S1x4352x128, .f32⟩
  | 80 => ⟨S6x4352x128, .f32⟩
  | 81 => ⟨S_, .i32⟩
  | 82 => ⟨S_, .f32⟩
  | 83 => ⟨S4x256, .f32⟩
  | 84 => ⟨S1x4x1x64, .f32⟩
  | 85 => ⟨S1x4x4x64, .f32⟩
  | 86 => ⟨S4x256, .f32⟩
  | 87 => ⟨S1x4x1x64, .f32⟩
  | 88 => ⟨S1x4x2x64, .f32⟩
  | 89 => ⟨S4x128, .f32⟩
  | 90 => ⟨S_, .i32⟩
  | 91 => ⟨S_, .f32⟩
  | 92 => ⟨S4x256, .f32⟩
  | 93 => ⟨S4x8, .f32⟩
  | 94 => ⟨S_, .i32⟩
  | 95 => ⟨S_, .f32⟩
  | 96 => ⟨S4x256, .f32⟩
  | 97 => ⟨S4x1x256, .f32⟩
  | 98 => ⟨S4x1x256, .f32⟩
  | 99 => ⟨S4x1x256, .f32⟩
  | 100 => ⟨S4x1x256, .f32⟩
  | 101 => ⟨S4x1x256, .f32⟩
  | 102 => ⟨S4x5x256, .f32⟩
  | 103 => ⟨S_, .i32⟩
  | 104 => ⟨S_, .f32⟩
  | 105 => ⟨S4x8x256, .f32⟩
  | 106 => ⟨S4x4352x1024, .f32⟩
  | 107 => ⟨S4x1x1024, .f32⟩
  | 108 => ⟨S4x4352x1024, .bf16⟩
  | 109 => ⟨S4x4352x1024, .bf16⟩
  | 110 => ⟨S4x4352x1024, .bf16⟩
  | 111 => ⟨S4x4352x1024, .bf16⟩
  | 112 => ⟨S4x4352x1024, .bf16⟩
  | 113 => ⟨S4x4352x768, .f32⟩
  | 114 => ⟨S4x4352x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | .local _ .vmem, ⟨0, _⟩ => ⟨S2x256x1024, .f32⟩
  | .local _ .vmem, ⟨1, _⟩ => ⟨S2x256x1024, .f32⟩
  | .local _ .vmem, ⟨2, _⟩ => ⟨S1x2x3x1024, .f32⟩
  | .local _ .vmem, ⟨3, _⟩ => ⟨S1x2x3x1024, .f32⟩
  | .local _ .vmem, ⟨4, _⟩ => ⟨S1x1x1024, .f32⟩
  | .local _ .vmem, ⟨5, _⟩ => ⟨S1x1024x3328, .bf16⟩
  | .local _ .vmem, ⟨6, _⟩ => ⟨S1x256x512, .bf16⟩
  | .local _ .vmem, ⟨7, _⟩ => ⟨S1x128x768, .bf16⟩
  | .local _ .vmem, ⟨8, _⟩ => ⟨S1x8x256, .f32⟩
  | .local _ .vmem, ⟨9, _⟩ => ⟨S6x256x128, .f32⟩
  | .local _ .vmem, ⟨10, _⟩ => ⟨S6x256x128, .f32⟩
  | .local _ .vmem, ⟨11, _⟩ => ⟨S2x256x1024, .bf16⟩
  | .local _ .vmem, ⟨12, _⟩ => ⟨S2x256x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S2x256x1024, .bf16⟩
  | .local _ .vmem, ⟨16, _⟩ => ⟨S2x256x1024, .bf16⟩
  | .local _ .vmem, ⟨17, _⟩ => ⟨S2x256x1024, .bf16⟩
  | .local _ .vmem, ⟨18, _⟩ => ⟨S2x256x1024, .bf16⟩
  | .local _ .vmem, ⟨19, _⟩ => ⟨S2x256x1024, .bf16⟩
  | .local _ .vmem, ⟨20, _⟩ => ⟨S2x256x1024, .bf16⟩
  | .local _ .vmem, ⟨21, _⟩ => ⟨S2x256x768, .f32⟩
  | .local _ .vmem, ⟨22, _⟩ => ⟨S2x256x768, .f32⟩
  | .local _ .vmem, ⟨23, _⟩ => ⟨S2x256x128, .f32⟩
  | .local _ .vmem, ⟨24, _⟩ => ⟨S2x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_c_2 : Ref sig .tc := ⟨.hbm, 16, rfl⟩
abbrev main_c_3 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_c_7 : Ref sig .tc := ⟨.hbm, 21, rfl⟩
abbrev main_c_8 : Ref sig .tc := ⟨.hbm, 22, rfl⟩
abbrev main_c_9 : Ref sig .tc := ⟨.hbm, 23, rfl⟩
abbrev main_c_10 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c_11 : Ref sig .tc := ⟨.hbm, 34, rfl⟩
abbrev main_c_12 : Ref sig .tc := ⟨.hbm, 35, rfl⟩
abbrev main_c_13 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_14 : Ref sig .tc := ⟨.hbm, 40, rfl⟩
abbrev main_c_15 : Ref sig .tc := ⟨.hbm, 41, rfl⟩
abbrev main_c_16 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c_17 : Ref sig .tc := ⟨.hbm, 46, rfl⟩
abbrev main_c_18 : Ref sig .tc := ⟨.hbm, 47, rfl⟩
abbrev main_c_19 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_c_20 : Ref sig .tc := ⟨.hbm, 52, rfl⟩
abbrev main_c_21 : Ref sig .tc := ⟨.hbm, 53, rfl⟩
abbrev main_c_22 : Ref sig .tc := ⟨.hbm, 54, rfl⟩
abbrev main_v17 : Ref sig .tc := ⟨.hbm, 55, rfl⟩
abbrev main_v18 : Ref sig .tc := ⟨.hbm, 56, rfl⟩
abbrev main_c_23 : Ref sig .tc := ⟨.hbm, 57, rfl⟩
abbrev main_call0_v0 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_24 : Ref sig .tc := ⟨.hbm, 63, rfl⟩
abbrev main_call1_v0 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_25 : Ref sig .tc := ⟨.hbm, 81, rfl⟩
abbrev main_v39 : Ref sig .tc := ⟨.hbm, 82, rfl⟩
abbrev main_v40 : Ref sig .tc := ⟨.hbm, 83, rfl⟩
abbrev main_cst_26 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_c_27 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_28 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v61 : Ref sig .tc := ⟨.hbm, 110, rfl⟩
abbrev main_c_29 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_30 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v68 : Ref sig .tc := ⟨.hbm, 122, rfl⟩
abbrev main_c_31 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_32 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_cst_33 : Ref sig .tc := ⟨.hbm, 136, rfl⟩
abbrev main_v77 : Ref sig .tc := ⟨.hbm, 137, rfl⟩
abbrev main_v78 : Ref sig .tc := ⟨.hbm, 138, rfl⟩
abbrev main_cst_34 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_c_35 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_c_36 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_37 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_v105 : Ref sig .tc := ⟨.hbm, 172, rfl⟩
abbrev main_c_38 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_39 : Ref sig .tc := ⟨.hbm, 179, rfl⟩
abbrev main_call6_v0 : Ref sig .tc := ⟨.hbm, 180, rfl⟩
abbrev main_call6_v1 : Ref sig .tc := ⟨.hbm, 181, rfl⟩
abbrev main_call6_v2 : Ref sig .tc := ⟨.hbm, 182, rfl⟩
abbrev main_v111 : Ref sig .tc := ⟨.hbm, 183, rfl⟩
abbrev main_cst_40 : Ref sig .tc := ⟨.hbm, 184, rfl⟩
abbrev main_v112 : Ref sig .tc := ⟨.hbm, 185, rfl⟩
abbrev main_v113 : Ref sig .tc := ⟨.hbm, 186, rfl⟩
abbrev main_cst_41 : Ref sig .tc := ⟨.hbm, 187, rfl⟩
abbrev main_v114 : Ref sig .tc := ⟨.hbm, 188, rfl⟩
abbrev main_v115 : Ref sig .tc := ⟨.hbm, 189, rfl⟩
abbrev main_cst_42 : Ref sig .tc := ⟨.hbm, 190, rfl⟩
abbrev main_v116 : Ref sig .tc := ⟨.hbm, 191, rfl⟩
abbrev main_v117 : Ref sig .tc := ⟨.hbm, 192, rfl⟩
abbrev main_cst_43 : Ref sig .tc := ⟨.hbm, 193, rfl⟩
abbrev main_v118 : Ref sig .tc := ⟨.hbm, 194, rfl⟩
abbrev main_v119 : Ref sig .tc := ⟨.hbm, 195, rfl⟩
abbrev main_cst_44 : Ref sig .tc := ⟨.hbm, 196, rfl⟩
abbrev main_v120 : Ref sig .tc := ⟨.hbm, 197, rfl⟩
abbrev main_v121 : Ref sig .tc := ⟨.hbm, 198, rfl⟩
abbrev main_cst_45 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_c_46 : Ref sig .tc := ⟨.hbm, 209, rfl⟩
abbrev main_call7_v0 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_c_47 : Ref sig .tc := ⟨.hbm, 218, rfl⟩
abbrev main_call8_v0 : Ref sig .tc := ⟨.hbm, 219, rfl⟩
abbrev main_v138 : Ref sig .tc := ⟨.hbm, 220, rfl⟩
abbrev main_v139 : Ref sig .tc := ⟨.hbm, 221, rfl⟩
abbrev main_c_48 : Ref sig .tc := ⟨.hbm, 222, rfl⟩
abbrev main_call9_v0 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_c_49 : Ref sig .tc := ⟨.hbm, 231, rfl⟩
abbrev main_call10_v0 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150_0 : Ref sig .tc := ⟨.hbm, 236, rfl⟩
abbrev main_v150_1 : Ref sig .tc := ⟨.hbm, 237, rfl⟩
abbrev main_v150_2 : Ref sig .tc := ⟨.hbm, 238, rfl⟩
abbrev main_v150_3 : Ref sig .tc := ⟨.hbm, 239, rfl⟩
abbrev main_v150_4 : Ref sig .tc := ⟨.hbm, 240, rfl⟩
abbrev main_v150_5 : Ref sig .tc := ⟨.hbm, 241, rfl⟩
abbrev main_v150_6 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c2_i32 : BitVec 32 := 2#32
  let v1 : BitVec 32 := Scalar.select v0 arg0 c2_i32
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x3328 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S6x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference3Ideal.lean ====
abbrev S4x4096x1024 : Shape := ⟨3, ![4, 4096, 1024]⟩
abbrev S4x256x1024 : Shape := ⟨3, ![4, 256, 1024]⟩
abbrev S4x3072 : Shape := ⟨2, ![4, 3072]⟩
abbrev S3072 : Shape := ⟨1, ![3072]⟩
abbrev S4x1024 : Shape := ⟨2, ![4, 1024]⟩
abbrev S4x1024x3240 : Shape := ⟨3, ![4, 1024, 3240]⟩
abbrev S4x256 : Shape := ⟨2, ![4, 256]⟩
abbrev S4x128 : Shape := ⟨2, ![4, 128]⟩
abbrev S4x256x384 : Shape := ⟨3, ![4, 256, 384]⟩
abbrev S4x128x512 : Shape := ⟨3, ![4, 128, 512]⟩
abbrev S4x64 : Shape := ⟨2, ![4, 64]⟩
abbrev S4x2x4 : Shape := ⟨3, ![4, 2, 4]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x256x1 : Shape := ⟨3, ![4, 256, 1]⟩
abbrev S4x4352x1024 : Shape := ⟨3, ![4, 4352, 1024]⟩
abbrev S1x1024x3240 : Shape := ⟨3, ![1, 1024, 3240]⟩
abbrev S1024x3240 : Shape := ⟨2, ![1024, 3240]⟩
abbrev S4x4352x3240 : Shape := ⟨3, ![4, 4352, 3240]⟩
abbrev S4x4352x256 : Shape := ⟨3, ![4, 4352, 256]⟩
abbrev S4x4352x128 : Shape := ⟨3, ![4, 4352, 128]⟩
abbrev S4x4352x32 : Shape := ⟨3, ![4, 4352, 32]⟩
abbrev S4x4352x768 : Shape := ⟨3, ![4, 4352, 768]⟩
abbrev S4x4352x8 : Shape := ⟨3, ![4, 4352, 8]⟩
abbrev S1x2x4 : Shape := ⟨3, ![1, 2, 4]⟩
abbrev S2x4 : Shape := ⟨2, ![2, 4]⟩
abbrev S8 : Shape := ⟨1, ![8]⟩
abbrev S1x1x8 : Shape := ⟨3, ![1, 1, 8]⟩
abbrev S4x4352x56 : Shape := ⟨3, ![4, 4352, 56]⟩

abbrev nBuf : Space → Nat
  | .hbm => 128
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x256x1024, .f32⟩
  | .hbm, ⟨2, _⟩ => ⟨S4x3072, .f32⟩
  | .hbm, ⟨3, _⟩ => ⟨S3072, .f32⟩
  | .hbm, ⟨4, _⟩ => ⟨S4x1024, .f32⟩
  | .hbm, ⟨5, _⟩ => ⟨S4x1024x3240, .f32⟩
  | .hbm, ⟨6, _⟩ => ⟨S4x256, .f32⟩
  | .hbm, ⟨7, _⟩ => ⟨S4x128, .f32⟩
  | .hbm, ⟨8, _⟩ => ⟨S4x256x384, .f32⟩
  | .hbm, ⟨9, _⟩ => ⟨S4x128x512, .f32⟩
  | .hbm, ⟨10, _⟩ => ⟨S4x64, .f32⟩
  | .hbm, ⟨11, _⟩ => ⟨S4x64, .f32⟩
  | .hbm, ⟨12, _⟩ => ⟨S4x2x4, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S4x1x1024, .f32⟩
  | .hbm, ⟨44, _⟩ => ⟨S4x4096x1024, .f32⟩
  | .hbm, ⟨45, _⟩ => ⟨S4x4096x1024, .f32⟩
  | .hbm, ⟨46, _⟩ => ⟨S1x1024, .f32⟩
  | .hbm, ⟨47, _⟩ => ⟨S1024, .f32⟩
  | .hbm, ⟨48, _⟩ => ⟨S4x256x1024, .f32⟩
  | .hbm, ⟨49, _⟩ => ⟨S_, .f32⟩
  | .hbm, ⟨50, _⟩ => ⟨S4x256, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S_, .f32⟩
  | .hbm, ⟨56, _⟩ => ⟨S4x256x1, .f32⟩
  | .hbm, ⟨57, _⟩ => ⟨S4x256x1, .f32⟩
  | .hbm, ⟨58, _⟩ => ⟨S4x256x1, .f32⟩
  | .hbm, ⟨59, _⟩ => ⟨S4x256x1024, .f32⟩
  | .hbm, ⟨60, _⟩ => ⟨S4x256x1024, .f32⟩
  | .hbm, ⟨61, _⟩ => ⟨S1x1x1024, .f32⟩
  | .hbm, ⟨62, _⟩ => ⟨S4x256x1024, .f32⟩
  | .hbm, ⟨63, _⟩ => ⟨S4x256x1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1x1x1024, .f32⟩
  | .hbm, ⟨68, _⟩ => ⟨S4x256x1024, .f32⟩
  | .hbm, ⟨69, _⟩ => ⟨S4x256x1024, .f32⟩
  | .hbm, ⟨70, _⟩ => ⟨S1x1x1024, .f32⟩
  | .hbm, ⟨71, _⟩ => ⟨S4x256x1024, .f32⟩
  | .hbm, ⟨72, _⟩ => ⟨S4x256x1024, .f32⟩
  | .hbm, ⟨73, _⟩ => ⟨S4x4352x1024, .f32⟩
  | .hbm, ⟨74, _⟩ => ⟨S1x1024x3240, .f32⟩
  | .hbm, ⟨75, _⟩ => ⟨S1024x3240, .f32⟩
  | .hbm, ⟨76, _⟩ => ⟨S4x4352x3240, .f32⟩
  | .hbm, ⟨77, _⟩ => ⟨S4x4352x256, .f32⟩
  | .hbm, ⟨78, _⟩ => ⟨S4x4352x128, .f32⟩
  | .hbm, ⟨79, _⟩ => ⟨S4x4352x32, .f32⟩
  | .hbm, ⟨80, _⟩ => ⟨S4x4352x256, .f32⟩
  | .hbm, ⟨81, _⟩ => ⟨S4x4352x256, .f32⟩
  | .hbm, ⟨82, _⟩ => ⟨S4x4352x128, .f32⟩
  | .hbm, ⟨83, _⟩ => ⟨S4x4352x128, .f32⟩
  | .hbm, ⟨84, _⟩ => ⟨S4x4352x256, .f32⟩
  | .hbm, ⟨85, _⟩ => ⟨S4x4352x256, .f32⟩
  | .hbm, ⟨86, _⟩ => ⟨S4x4352x128, .f32⟩
  | .hbm, ⟨87, _⟩ => ⟨S4x4352x128, .f32⟩
  | .hbm, ⟨88, _⟩ => ⟨S4x4352x256, .f32⟩
  | .hbm, ⟨89, _⟩ => ⟨S4x4352x256, .f32⟩
  | .hbm, ⟨90, _⟩ => ⟨S4x4352x768, .f32⟩
  | .hbm, ⟨91, _⟩ => ⟨S4x4352x8, .f32⟩
  | .hbm, ⟨92, _⟩ => ⟨S4x4352x1024, .f32⟩
  | .hbm, ⟨93, _⟩ => ⟨S4x4352x1024, .f32⟩
  | .hbm, ⟨94, _⟩ => ⟨S4x4352x1024, .f32⟩
  | .hbm, ⟨95, _⟩ => ⟨S_, .f32⟩
  | .hbm, ⟨96, _⟩ => ⟨S4x4352x1024, .f32⟩
  | .hbm, ⟨97, _⟩ => ⟨S4x4352x1024, .f32⟩
  | .hbm, ⟨98, _⟩ => ⟨S_, .f32⟩
  | .hbm, ⟨99, _⟩ => ⟨S4x4352x1024, .f32⟩
  | .hbm, ⟨100, _⟩ => ⟨S4x4352x1024, .f32⟩
  | .hbm, ⟨101, _⟩ => ⟨S4x4352x1024, .f32⟩
  | .hbm, ⟨102, _⟩ => ⟨S1x2x4, .f32⟩
  | .hbm, ⟨103, _⟩ => ⟨S2x4, .f32⟩
  | .hbm, ⟨104, _⟩ => ⟨S8, .f32⟩
  | .hbm, ⟨105, _⟩ => ⟨S1x1x8, .f32⟩
  | .hbm, ⟨106, _⟩ => ⟨S4x4352x8, .f32⟩
  | .hbm, ⟨107, _⟩ => ⟨S4x4352x8, .f32⟩
  | .hbm, ⟨108, _⟩ => ⟨S_, .f32⟩
  | .hbm, ⟨109, _⟩ => ⟨S4x4352x56, .f32⟩
  | .hbm, ⟨110, _⟩ => ⟨S_, .f32⟩
  | .hbm, ⟨111, _⟩ => ⟨S4x4352x32, .f32⟩
  | .hbm, ⟨112, _⟩ => ⟨S4x4352x128, .f32⟩
  | .hbm, ⟨113, _⟩ => ⟨S_, .f32⟩
  | .hbm, ⟨114, _⟩ => ⟨S4x4352x128, .f32⟩
  | .hbm, ⟨115, _⟩ => ⟨S4x4352x128, .f32⟩
  | .hbm, ⟨116, _⟩ => ⟨S4x4352x128, .f32⟩
  | .hbm, ⟨117, _⟩ => ⟨S4x4352x128, .f32⟩
  | .hbm, ⟨118, _⟩ => ⟨S4x4352x128, .i1⟩
  | .hbm, ⟨119, _⟩ => ⟨S4x4352x128, .f32⟩
  | .hbm, ⟨120, _⟩ => ⟨S4x4352x128, .f32⟩
  | .hbm, ⟨121, _⟩ => ⟨S4x4352x128, .f32⟩
  | .hbm, ⟨122, _⟩ => ⟨S4x4352x128, .f32⟩
  | .hbm, ⟨123, _⟩ => ⟨S4x4352x128, .f32⟩
  | .hbm, ⟨124, _⟩ => ⟨S4x4352x128, .f32⟩
  | .hbm, ⟨125, _⟩ => ⟨S4x4352x128, .f32⟩
  | .hbm, ⟨126, _⟩ => ⟨S4x4352x128, .f32⟩
  | .hbm, ⟨127, _⟩ => ⟨S4x4352x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_7 : Ref sig .tc := ⟨.hbm, 108, rfl⟩
abbrev main_v79 : Ref sig .tc := ⟨.hbm, 109, rfl⟩
abbrev main_cst_8 : Ref sig .tc := ⟨.hbm, 110, rfl⟩
abbrev main_v80 : Ref sig .tc := ⟨.hbm, 111, rfl⟩
abbrev main_v81 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_v82 : Ref sig .tc := ⟨.hbm, 126, rfl⟩
abbrev main_v83 : Ref sig .tc := ⟨.hbm, 127, rfl⟩

abbrev nD : Nat := 1
abbrev τ : Topo := Topo.v7x

variable {F : FTy → Type} [FloatOps F]
-- ==== Proof.Softmax.lean ====
/- Softmax attention over the extended reals: a row of scores weighed two ways. The kernel keeps the scores in units
   of `log 2`, takes powers of two, and divides the weighted sum once by the sum of the weights; the reference takes
   `exp` and divides every weight. With real scores the two agree, whatever the values are. -/
module

public import Idealize.ShloMosaic.Lib.Pointwise
public import Mathlib.Analysis.SpecialFunctions.Pow.Real

@[expose] public section

noncomputable section

namespace Cert.Soft

open Idealize.ShloMosaic

/-- A nonnegative real factor distributes over a finite sum of extended reals. -/
theorem coe_mul_sum {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- A finite sum of reals, read in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real below `⊤` in absolute value is a real. -/
theorem exists_coe {x : EReal} (h : max x (-x) < ⊤) : ∃ r : ℝ, x = (r : EReal) := by
  induction x with
  | bot => simp at h
  | coe r => exact ⟨r, rfl⟩
  | top => simp at h

variable {ι κ : Type} [Fintype ι] [Fintype κ] [Nonempty ι]

/-- The greatest of the scores, whichever positive factor `a` they are scaled by, is taken at one key. -/
theorem exists_greatest (r : ι → ℝ) : ∃ i, ∀ j, r j ≤ r i := by
  obtain ⟨i, -, h⟩ := Finset.exists_max_image (Finset.univ : Finset ι) r Finset.univ_nonempty
  exact ⟨i, fun j => h j (Finset.mem_univ j)⟩

/-- A number that is at most `c` exactly when all the scores are, is the score at a greatest key. -/
theorem eq_of_le_iff {x : ι → EReal} {M : EReal} (hM : ∀ c, M ≤ c ↔ ∀ i, x i ≤ c) {i : ι} (hi : ∀ j, x j ≤ x i) : M = x i :=
  le_antisymm ((hM _).mpr hi) ((hM M).mp le_rfl i)

/-- One row of attention. `r` are the scores before scaling; `L` is `r / (a log 2)`, the kernel's, `X` is `r / a`, the
    reference's, over keys listed in another order; `ML` and `MX` are their greatest. The kernel's weighted sum over its
    sum of weights is the reference's sum of normalised weights times values. -/
theorem attention (r : ι → ℝ) (a : ℝ) (ha : 0 < a) (σ : ι ≃ κ) (L V : ι → EReal) (X W : κ → EReal) (ML MX : EReal)
    (hL : ∀ i, L i = ((r i * (1 / (a * Real.log 2)) : ℝ) : EReal)) (hX : ∀ i, X (σ i) = ((r i * (1 / a) : ℝ) : EReal))
    (hML : ∀ c, ML ≤ c ↔ ∀ i, L i ≤ c) (hMX : ∀ c, MX ≤ c ↔ ∀ k, X k ≤ c) (hW : ∀ i, W (σ i) = V i) :
    Ideal.div (∑ i, Ideal.exp2 (L i - ML) * V i) (∑ i, Ideal.exp2 (L i - ML) * 1)
      = ∑ k, Ideal.div (Ideal.exp (X k - MX)) (∑ k', Ideal.exp (X k' - MX)) * W k := by
  obtain ⟨i₀, h₀⟩ := exists_greatest r
  have hlog : (0 : ℝ) < Real.log 2 := Real.log_pos (by norm_num)
  have hMLe : ML = L i₀ := eq_of_le_iff hML fun j => by
    rw [hL, hL]; exact EReal.coe_le_coe_iff.mpr (mul_le_mul_of_nonneg_right (h₀ j) (by positivity))
  have hMXe : MX = X (σ i₀) := by
    refine le_antisymm ((hMX _).mpr fun k => ?_) ((hMX MX).mp le_rfl _)
    obtain ⟨j, rfl⟩ := σ.surjective k
    rw [hX, hX]; exact EReal.coe_le_coe_iff.mpr (mul_le_mul_of_nonneg_right (h₀ j) (by positivity))
  have eL : ∀ i, Ideal.exp2 (L i - ML) = ((Real.exp ((r i - r i₀) / a) : ℝ) : EReal) := fun i => by
    rw [hMLe, hL, hL, ← EReal.coe_sub, Ideal.exp2_coe]
    congr 1
    rw [show ∀ x : ℝ, Real.rpow 2 x = (2 : ℝ) ^ x from fun _ => rfl]
    rw [Real.rpow_def_of_pos (by norm_num)]
    congr 1
    field_simp
  have eX : ∀ i, Ideal.exp (X (σ i) - MX) = ((Real.exp ((r i - r i₀) / a) : ℝ) : EReal) := fun i => by
    rw [hMXe, hX, hX, ← EReal.coe_sub, Ideal.exp_coe]
    congr 2
    field_simp
  simp only [eL, mul_one]
  rw [← Equiv.sum_comp σ, ← Equiv.sum_comp σ (fun k => Ideal.exp (X k - MX))]
  simp only [eX, hW]
  rw [sum_coe]
  have hpos : (0 : ℝ) < ∑ i, Real.exp ((r i - r i₀) / a) :=
    Finset.sum_pos (fun i _ => Real.exp_pos _) Finset.univ_nonempty
  simp only [Ideal.div_coe hpos.ne']
  rw [mul_comm, coe_mul_sum _ _ _ (by positivity)]
  exact Finset.sum_congr rfl fun i _ => by rw [← mul_assoc, mul_comm (Real.exp _ : EReal)]

/-- The kernel's list of keys, latents then contexts, against the reference's, contexts then latents. -/
def swap : Fin 4352 ≃ Fin 4352 where
  toFun t := if h : t.val < 4096 then ⟨t.val + 256, by omega⟩ else ⟨t.val - 4096, by omega⟩
  invFun t := if h : t.val < 256 then ⟨t.val + 4096, by omega⟩ else ⟨t.val - 256, by omega⟩
  left_inv t := by
    ext; dsimp only; split
    · rw [dif_neg (by simp)]; simp
    · rename_i h; rw [dif_pos (by dsimp only; omega)]; dsimp only; omega
  right_inv t := by
    ext; dsimp only; split
    · rw [dif_neg (by simp)]; simp
    · rename_i h; rw [dif_pos (by dsimp only; omega)]; dsimp only; omega

/-- A sum over the kernel's 4352 keys, by the five chunks it reads. -/
theorem sum_chunks (f : Fin 4352 → EReal) :
    ∑ t, f t = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩)
      + (∑ k : Fin 256, f ⟨4096 + k.val, by omega⟩) := by
  have h1 := Fin.sum_univ_add (a := 4096) (b := 256) f
  have h2 := Fin.sum_univ_add (a := 3072) (b := 1024) fun k => f ⟨k.val, by omega⟩
  have h3 := Fin.sum_univ_add (a := 2048) (b := 1024) fun k => f ⟨k.val, by omega⟩
  have h4 := Fin.sum_univ_add (a := 1024) (b := 1024) fun k => f ⟨k.val, by omega⟩
  refine h1.trans ?_
  refine congrArg₂ (· + ·) (h2.trans ?_) rfl
  refine congrArg₂ (· + ·) (h3.trans ?_) rfl
  exact congrArg₂ (· + ·) (h4.trans rfl) rfl

end Cert.Soft

end
-- ==== Proof.Real.lean ====
/- The precondition read: an array whose every absolute value is below infinity holds real numbers. -/
module

public import proofs.«01_k».proof.Defs
public import proofs.«01_k».proof.Proof.Gen.Pre_finite
public import proofs.«01_k».proof.Proof.Softmax
public import Idealize.ShloMosaic.Lib.Pointwise

@[expose] public section

noncomputable section

namespace Cert.Real

open Idealize.ShloMosaic

/-- The word of infinity. -/
theorem bits_top : Ideal.ofBits FTy.f32 2139095040#32 = ⊤ := by simp [Ideal.ofBits, Ideal.ieee]

/-- One array of the precondition: its comparison true everywhere says that every element is real. -/
theorem of_compare {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    ∃ r : ℝ, x i = (r : EReal) := by
  have h := congrFun h i
  refine Soft.exists_coe ?_
  have hc : Ideal.cmp .olt (max (x i) (-(x i))) (Ideal.ofBits FTy.f32 2139095040#32) = 1#1 := h
  rw [bits_top] at hc
  by_contra hn
  simp [Ideal.cmp, hn] at hc

end Cert.Real

end
-- ==== Proof.Body.lean ====
/- The kernel body's values, read at an index: the logits of each key chunk, the running maximum over lanes, the
   exponentials weighed by the packed values, and the rotated division. -/
module

public import proofs.«01_k».proof.Proof.Gen.KernelIdeal.Frame
public import proofs.«01_k».proof.Proof.Softmax
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Body

open Cert.KernelIdeal Cert.KernelIdeal.Gen Idealize.ShloMosaic Idealize.ShloMosaic.TcCoe Idealize.SL.Sem

/-! ## The logits -/

/-- A query row against a key row, 128 lanes each: what every chunk's product is at an index. -/
def row (q : Vec Ideal S1x1024x128 .bf16) (n : ℕ) (k : Vec Ideal (⟨3, ![1, n, 128]⟩ : Shape) .bf16) (r : Fin 1024) (t : Fin n) : EReal :=
  ∑ d : Fin 128, q (ix3 0 r d) * k (ix3 0 t d)

theorem pay2_at (q : Vec Ideal S1x1024x128 .bf16) (r : Fin 1024) (d : Fin 128) : k0_pay2 q (ix2 r d) = q (ix3 0 r d) := by
  pointwise [k0_pay2]

theorem pay8_at (q : Vec Ideal S1x1024x128 .bf16) (k : Vec Ideal S1x1024x128 .bf16) (r t : Fin 1024) :
    k0_pay8 (k0_pay2 q) k (ix2 r t) = row q 1024 k r t := by
  pointwise [k0_pay8, pay2_at, row]

theorem pay13_at (q : Vec Ideal S1x1024x128 .bf16) (k : Vec Ideal S1x256x128 .bf16) (r : Fin 1024) (t : Fin 256) :
    k0_pay13 (k0_pay2 q) k (ix2 r t) = row q 256 k r t := by
  pointwise [k0_pay13, pay2_at, row]

theorem pay4_at (q k r t) : k0_pay4 (F := Ideal) q k (ix2 r t) = row q 1024 k r t := by
  rw [← pay8_at]; pointwise [k0_pay4]; rfl
theorem pay6_at (q k r t) : k0_pay6 (F := Ideal) q k (ix2 r t) = row q 1024 k r t := by
  rw [← pay8_at]; pointwise [k0_pay6]; rfl
theorem pay9_at (q k r t) : k0_pay9 (F := Ideal) (k0_pay2 q) k (ix2 r t) = row q 1024 k r t := by
  rw [← pay8_at]; pointwise [k0_pay9]
theorem pay11_at (q k r t) : k0_pay11 (F := Ideal) (k0_pay2 q) k (ix2 r t) = row q 1024 k r t := by
  rw [← pay8_at]; pointwise [k0_pay11]; rfl
theorem pay14_at (q k r t) : k0_pay14 (F := Ideal) (k0_pay2 q) k (ix2 r t) = row q 256 k r t := by
  rw [← pay13_at]; pointwise [k0_pay14]
theorem pay18_at (q k r t) : k0_pay18 (F := Ideal) q k (ix2 r t) = row q 1024 k r t := by
  rw [← pay8_at]; pointwise [k0_pay18]; rfl
theorem pay21_at (q k r t) : k0_pay21 (F := Ideal) (k0_pay16 q) k (ix2 r t) = row q 1024 k r t := by
  rw [← pay8_at]; pointwise [k0_pay21]; rfl
theorem pay23_at (q k r t) : k0_pay23 (F := Ideal) (k0_pay16 q) k (ix2 r t) = row q 1024 k r t := by
  rw [← pay8_at]; pointwise [k0_pay23]; rfl
theorem pay27_at (q k r t) : k0_pay27 (F := Ideal) (k0_pay16 q) (k0_pay25 k) (ix2 r t) = row q 1024 k r t := by
  rw [← pay8_at]; pointwise [k0_pay27]; rfl
theorem pay29_at (q k r t) : k0_pay29 (F := Ideal) (k0_pay16 q) k (ix2 r t) = row q 256 k r t := by
  rw [← pay13_at]; pointwise [k0_pay29]; rfl

/-! ## The maximum over the keys -/

/-- A bound on a full chunk's scores, as the eight lane groups the maximum is taken over. -/
theorem le_1024 (f : Fin 1024 → EReal) (c : EReal) : (∀ t, f t ≤ c) ↔
    (∀ l : Fin 128, f ⟨l, by omega⟩ ≤ c) ∧ (∀ l : Fin 128, f ⟨128 + l, by omega⟩ ≤ c) ∧ (∀ l : Fin 128, f ⟨256 + l, by omega⟩ ≤ c)
      ∧ (∀ l : Fin 128, f ⟨384 + l, by omega⟩ ≤ c) ∧ (∀ l : Fin 128, f ⟨512 + l, by omega⟩ ≤ c) ∧ (∀ l : Fin 128, f ⟨640 + l, by omega⟩ ≤ c)
      ∧ (∀ l : Fin 128, f ⟨768 + l, by omega⟩ ≤ c) ∧ ∀ l : Fin 128, f ⟨896 + l, by omega⟩ ≤ c := by
  refine ⟨fun h => ⟨fun _ => h _, fun _ => h _, fun _ => h _, fun _ => h _, fun _ => h _, fun _ => h _, fun _ => h _, fun _ => h _⟩,
    fun ⟨h0, h1, h2, h3, h4, h5, h6, h7⟩ t => ?_⟩
  obtain ⟨l, hl⟩ : ∃ l : Fin 128, l.val = t.val % 128 := ⟨⟨t % 128, Nat.mod_lt _ (by decide)⟩, rfl⟩
  have ht := t.isLt
  rcases (by omega : t.val / 128 = 0 ∨ t.val / 128 = 1 ∨ t.val / 128 = 2 ∨ t.val / 128 = 3 ∨ t.val / 128 = 4 ∨ t.val / 128 = 5
    ∨ t.val / 128 = 6 ∨ t.val / 128 = 7) with h | h | h | h | h | h | h | h
  · convert h0 l using 2; ext; dsimp only; omega
  · convert h1 l using 2; ext; dsimp only; omega
  · convert h2 l using 2; ext; dsimp only; omega
  · convert h3 l using 2; ext; dsimp only; omega
  · convert h4 l using 2; ext; dsimp only; omega
  · convert h5 l using 2; ext; dsimp only; omega
  · convert h6 l using 2; ext; dsimp only; omega
  · convert h7 l using 2; ext; dsimp only; omega

/-- The same for the short last chunk, which has two lane groups. -/
theorem le_256 (f : Fin 256 → EReal) (c : EReal) : (∀ t, f t ≤ c) ↔
    (∀ l : Fin 128, f ⟨l, by omega⟩ ≤ c) ∧ ∀ l : Fin 128, f ⟨128 + l, by omega⟩ ≤ c := by
  refine ⟨fun h => ⟨fun _ => h _, fun _ => h _⟩, fun ⟨h0, h1⟩ t => ?_⟩
  have ht := t.isLt
  by_cases h : t.val < 128
  · exact h0 ⟨t, h⟩
  · convert h1 ⟨t - 128, by omega⟩ using 2; ext; dsimp only; omega

theorem ofBits_bot : Ideal.ofBits FTy.f32 4286578688#32 = ⊥ := by
  simp [Ideal.ofBits, Ideal.ieee]

/-- The first head's maximum at a row: at most `c` exactly when every score is. -/
theorem pay15_le (q k0 k1 k2 k3 k4) (r : Fin 1024) (c : EReal) :
    k0_pay15 (F := Ideal) (k0_pay2 q) (k0_pay10 (k0_pay2 q) k3)
      (k0_pay12 (k0_pay2 q) (k0_pay5 q k1) (k0_pay7 q k0 k1) k2 k3) k4 (ix2 r 0) ≤ c ↔
      (∀ t, row q 1024 k0 r t ≤ c) ∧ (∀ t, row q 1024 k1 r t ≤ c) ∧ (∀ t, row q 1024 k2 r t ≤ c)
        ∧ (∀ t, row q 1024 k3 r t ≤ c) ∧ ∀ t, row q 256 k4 r t ≤ c := by
  have e3 : ∀ t, k0_pay3 (F := Ideal) q k0 (ix2 r t) = row q 1024 k0 r t := pay8_at q k0 r
  have e5 : ∀ t, k0_pay5 (F := Ideal) q k1 (ix2 r t) = row q 1024 k1 r t := pay8_at q k1 r
  have e8 : ∀ t, k0_pay8 (F := Ideal) (k0_pay2 q) k2 (ix2 r t) = row q 1024 k2 r t := pay8_at q k2 r
  have e10 : ∀ t, k0_pay10 (F := Ideal) (k0_pay2 q) k3 (ix2 r t) = row q 1024 k3 r t := pay8_at q k3 r
  have e13 : ∀ t, k0_pay13 (F := Ideal) (k0_pay2 q) k4 (ix2 r t) = row q 256 k4 r t := pay13_at q k4 r
  simp only [le_1024, le_256]
  pointwise [k0_pay15, k0_pay12, k0_pay7, e3, e5, e8, e10, e13]
  rw [Finset.fold_max_le, ofBits_bot]
  simp only [bot_le, true_and, Finset.mem_univ, forall_const, max_le_iff, forall_and, and_assoc]

/-- The second head's maximum likewise. -/
theorem pay30_le (q k0 k1 k2 k3 k4) (r : Fin 1024) (c : EReal) :
    k0_pay30 (F := Ideal) (k0_pay16 q) (k0_pay24 (k0_pay16 q) (k0_pay19 q k0) k1 k2) (k0_pay25 k3) k4 (ix2 r 0) ≤ c ↔
      (∀ t, row q 1024 k0 r t ≤ c) ∧ (∀ t, row q 1024 k1 r t ≤ c) ∧ (∀ t, row q 1024 k2 r t ≤ c)
        ∧ (∀ t, row q 1024 k3 r t ≤ c) ∧ ∀ t, row q 256 k4 r t ≤ c := by
  have e17 : ∀ t, k0_pay17 (F := Ideal) q k0 (ix2 r t) = row q 1024 k0 r t := pay8_at q k0 r
  have e20 : ∀ t, k0_pay20 (F := Ideal) (k0_pay16 q) k1 (ix2 r t) = row q 1024 k1 r t := pay8_at q k1 r
  have e22 : ∀ t, k0_pay22 (F := Ideal) (k0_pay16 q) k2 (ix2 r t) = row q 1024 k2 r t := pay8_at q k2 r
  have e26 : ∀ t, k0_pay26 (F := Ideal) (k0_pay16 q) (k0_pay25 k3) (ix2 r t) = row q 1024 k3 r t := pay8_at q k3 r
  have e28 : ∀ t, k0_pay28 (F := Ideal) (k0_pay16 q) k4 (ix2 r t) = row q 256 k4 r t := pay13_at q k4 r
  simp only [le_1024, le_256]
  pointwise [k0_pay30, k0_pay24, k0_pay19, e17, e20, e22, e26, e28]
  rw [Finset.fold_max_le, ofBits_bot]
  simp only [bot_le, true_and, Finset.mem_univ, forall_const, max_le_iff, forall_and, and_assoc]

/-! ## The weighted sums -/

/-- One chunk's part of the weighted sum: powers of two of the scores below the maximum `M`, times a lane of the values. -/
def part (M : EReal) (n : ℕ) (s : Fin n → EReal) (v : Vec Ideal (⟨3, ![1, n, 128]⟩ : Shape) .bf16) (l : Fin 128) : EReal :=
  ∑ t : Fin n, Ideal.exp2 (s t - M) * v (ix3 0 t l)

/-- The first head's weighted sum at a row and lane: the five chunks in turn. -/
theorem pay32_at (M : FVec Ideal S1024x1 .f32) (s0 s1 s2 s3 : Vec Ideal S1024x1024 .f32) (s4 : Vec Ideal S1024x256 .f32)
    (v0 v1 v2 v3 : Vec Ideal S1x1024x128 .bf16) (v4 : Vec Ideal S1x256x128 .bf16) (r : Fin 1024) (l : Fin 128) :
    k0_pay32 (F := Ideal) M (k0_pay31 M s0 v0) s1 v1 s2 v2 s3 v3 s4 v4 (ix2 r l) =
      part (M (ix2 r 0)) 1024 (fun t => s0 (ix2 r t)) v0 l + part (M (ix2 r 0)) 1024 (fun t => s1 (ix2 r t)) v1 l
        + part (M (ix2 r 0)) 1024 (fun t => s2 (ix2 r t)) v2 l + part (M (ix2 r 0)) 1024 (fun t => s3 (ix2 r t)) v3 l
        + part (M (ix2 r 0)) 256 (fun t => s4 (ix2 r t)) v4 l := by
  pointwise [k0_pay32, k0_pay31, part]
  rfl

/-- The rotated lane: the other half of the 128. -/
def rot (l : Fin 128) : Fin 128 := ⟨(l + 128 - 64) % 128, Nat.mod_lt _ (by decide)⟩

/-- The lane test of the last select. -/
theorem lane_lt : ∀ l : Fin 128, IntOp.cmpi .slt (BitVec.ofNat 32 l) 64#32 = if l.val < 64 then 1#1 else 0#1 := by decide

/-- The whole body's value: in each half of the lanes its head's weighted sum over the other half, gated. -/
theorem pay1_at (M0 M1 : FVec Ideal S1024x1 .f32) (s0 s1 s2 s3 : Vec Ideal S1024x1024 .f32) (s4 : Vec Ideal S1024x256 .f32)
    (v0 v1 v2 v3 : Vec Ideal S1x1024x128 .bf16) (v4 : Vec Ideal S1x256x128 .bf16)
    (s0' s1' s2' s3' : Vec Ideal S1024x1024 .f32) (s4' : Vec Ideal S1024x256 .f32)
    (v0' v1' v2' v3' : Vec Ideal S1x1024x128 .bf16) (v4' : Vec Ideal S1x256x128 .bf16) (g : Vec Ideal S1x1024x128 .bf16)
    (n0 n1 : Fin 128 → EReal) (r : Fin 1024) (l : Fin 128)
    (h0 : ∀ l, n0 l = part (M0 (ix2 r 0)) 1024 (fun t => s0 (ix2 r t)) v0 l + part (M0 (ix2 r 0)) 1024 (fun t => s1 (ix2 r t)) v1 l
        + part (M0 (ix2 r 0)) 1024 (fun t => s2 (ix2 r t)) v2 l + part (M0 (ix2 r 0)) 1024 (fun t => s3 (ix2 r t)) v3 l
        + part (M0 (ix2 r 0)) 256 (fun t => s4 (ix2 r t)) v4 l)
    (h1 : ∀ l, n1 l = part (M1 (ix2 r 0)) 1024 (fun t => s0' (ix2 r t)) v0' l + part (M1 (ix2 r 0)) 1024 (fun t => s1' (ix2 r t)) v1' l
        + part (M1 (ix2 r 0)) 1024 (fun t => s2' (ix2 r t)) v2' l + part (M1 (ix2 r 0)) 1024 (fun t => s3' (ix2 r t)) v3' l
        + part (M1 (ix2 r 0)) 256 (fun t => s4' (ix2 r t)) v4' l) :
    k0_pay1 (F := Ideal) (iota .tc S1024x128 32 [1] iota_S1024x128_d1_w32) M1
        (k0_pay34 (k0_pay32 M0 (k0_pay31 M0 s0 v0) s1 v1 s2 v2 s3 v3 s4 v4) (k0_pay33 M0 (k0_pay31 M0 s0 v0) s1 v1 s2 v2 s3 v3 s4 v4))
        (k0_pay35 M1 s0' v0' s1' v1' s2' v2' s3' v3') s4' v4' g (ix3 0 r l) =
      (if l.val < 64 then Ideal.div (n0 l) (n0 (rot l)) else Ideal.div (n1 l) (n1 (rot l))) * g (ix3 0 r l) := by
  simp only [h0, h1]
  pointwise [k0_pay1, k0_pay34, k0_pay33, pay32_at, k0_pay35, rot, part, lane_lt]
  by_cases h : l.val < 64 <;> simp only [h, if_true, if_false, Scalar.select] <;> rfl

/-! ## The body from its four input blocks -/

section Block

variable (x0 : S1x1024x256.Idx → EReal) (x1 x2 : S1x4352x256.Idx → EReal)

/-- The score of query row `r` against key `t` in head `j` of the pair: the product of their 128 lanes. -/
def score (j : Fin 2) (r : Fin 1024) (t : Fin 4352) : EReal :=
  ∑ d : Fin 128, x0 (ix3 0 r ⟨128 * j + d, by omega⟩) * x1 (ix3 0 t ⟨128 * j + d, by omega⟩)

/-- The sum over all keys of the powers of two of the scores below their maximum, weighed by lane `l` of the values. -/
def wsum (j : Fin 2) (r : Fin 1024) (l : Fin 128) : EReal :=
  ∑ t : Fin 4352, Ideal.exp2 (score x0 x1 j r t - ⨆ t, score x0 x1 j r t) * x2 (ix3 0 t ⟨128 * j + l, by omega⟩)

/-- A bound on all the keys is a bound on each of the five chunks. -/
theorem le_chunks (f : Fin 4352 → EReal) (c : EReal) : ⨆ t, f t ≤ c ↔
    (∀ t : Fin 1024, f ⟨t, by omega⟩ ≤ c) ∧ (∀ t : Fin 1024, f ⟨1024 + t, by omega⟩ ≤ c) ∧ (∀ t : Fin 1024, f ⟨2048 + t, by omega⟩ ≤ c)
      ∧ (∀ t : Fin 1024, f ⟨3072 + t, by omega⟩ ≤ c) ∧ ∀ t : Fin 256, f ⟨4096 + t, by omega⟩ ≤ c := by
  rw [iSup_le_iff]
  refine ⟨fun h => ⟨fun _ => h _, fun _ => h _, fun _ => h _, fun _ => h _, fun _ => h _⟩, fun ⟨h0, h1, h2, h3, h4⟩ t => ?_⟩
  have ht := t.isLt
  rcases (by omega : t.val < 1024 ∨ 1024 ≤ t.val ∧ t.val < 2048 ∨ 2048 ≤ t.val ∧ t.val < 3072 ∨ 3072 ≤ t.val ∧ t.val < 4096
    ∨ 4096 ≤ t.val) with h | h | h | h | h
  · exact h0 ⟨t, h⟩
  · convert h1 ⟨t - 1024, by omega⟩ using 2; ext; dsimp only; omega
  · convert h2 ⟨t - 2048, by omega⟩ using 2; ext; dsimp only; omega
  · convert h3 ⟨t - 3072, by omega⟩ using 2; ext; dsimp only; omega
  · convert h4 ⟨t - 4096, by omega⟩ using 2; ext; dsimp only; omega

end Block

/-- The maximum as a supremum, once the chunks' scores are one row `s` of scores. -/
theorem pay15_eq (q k0 k1 k2 k3 k4) (r : Fin 1024) (s : Fin 4352 → EReal)
    (h0 : ∀ t : Fin 1024, row q 1024 k0 r t = s ⟨t, by omega⟩) (h1 : ∀ t : Fin 1024, row q 1024 k1 r t = s ⟨1024 + t, by omega⟩)
    (h2 : ∀ t : Fin 1024, row q 1024 k2 r t = s ⟨2048 + t, by omega⟩) (h3 : ∀ t : Fin 1024, row q 1024 k3 r t = s ⟨3072 + t, by omega⟩)
    (h4 : ∀ t : Fin 256, row q 256 k4 r t = s ⟨4096 + t, by omega⟩) :
    k0_pay15 (F := Ideal) (k0_pay2 q) (k0_pay10 (k0_pay2 q) k3)
      (k0_pay12 (k0_pay2 q) (k0_pay5 q k1) (k0_pay7 q k0 k1) k2 k3) k4 (ix2 r 0) = ⨆ t, s t :=
  eq_of_forall_ge_iff fun c => by rw [pay15_le, le_chunks]; simp only [h0, h1, h2, h3, h4]

/-- The maximum as a supremum, once the chunks' scores are one row `s` of scores. -/
theorem pay30_eq (q k0 k1 k2 k3 k4) (r : Fin 1024) (s : Fin 4352 → EReal)
    (h0 : ∀ t : Fin 1024, row q 1024 k0 r t = s ⟨t, by omega⟩) (h1 : ∀ t : Fin 1024, row q 1024 k1 r t = s ⟨1024 + t, by omega⟩)
    (h2 : ∀ t : Fin 1024, row q 1024 k2 r t = s ⟨2048 + t, by omega⟩) (h3 : ∀ t : Fin 1024, row q 1024 k3 r t = s ⟨3072 + t, by omega⟩)
    (h4 : ∀ t : Fin 256, row q 256 k4 r t = s ⟨4096 + t, by omega⟩) :
    k0_pay30 (F := Ideal) (k0_pay16 q) (k0_pay24 (k0_pay16 q) (k0_pay19 q k0) k1 k2) (k0_pay25 k3) k4 (ix2 r 0) = ⨆ t, s t :=
  eq_of_forall_ge_iff fun c => by rw [pay30_le, le_chunks]; simp only [h0, h1, h2, h3, h4]

variable (m : (ℓ : Loc nD τ sig) → Buf (Elt Ideal) ℓ)

set_option maxHeartbeats 2000000 in
/-- The block the body leaves: in each half of the lanes the quotient of its head's weighted sum by the one 64 lanes
    away, times the gate. -/
theorem outs_at (c : Dev nD) (t : Fin cfg0.N) (r : Fin 1024) (l : Fin 128) :
    outsAt0 m c t (ix3 0 r l) =
      (if l.val < 64 then Ideal.div (wsum (X0_0 m c t) (iblk m c 1 t) (iblk m c 2 t) 0 r l) (wsum (X0_0 m c t) (iblk m c 1 t) (iblk m c 2 t) 0 r (rot l))
        else Ideal.div (wsum (X0_0 m c t) (iblk m c 1 t) (iblk m c 2 t) 1 r l) (wsum (X0_0 m c t) (iblk m c 1 t) (iblk m c 2 t) 1 r (rot l)))
        * X0_3 m c t (ix3 0 r l) := by
  unfold outsAt0
  generalize (X0_0 m c t : S1x1024x256.Idx → Ideal .bf16) = x0
  generalize (X0_3 m c t : S1x1024x128.Idx → Ideal .bf16) = x3
  generalize (iblk m c 1 t : S1x4352x256.Idx → Ideal .bf16) = x1
  generalize (iblk m c 2 t : S1x4352x256.Idx → Ideal .bf16) = x2
  frame_open
  simp (disch := decide) only [↓ View.readCov_skip, ↓ View.readCov_cons_toLoadRect, ↓ View.readCov_fill]
  frame_out
  apply pay1_at (n0 := wsum x0 x1 x2 0 r) (n1 := wsum x0 x1 x2 1 r)
  · intro l
    simp only [pay4_at, pay6_at, pay9_at, pay11_at, pay14_at]
    rw [pay15_eq (s := score x0 x1 0 r)]
    rw [wsum, Soft.sum_chunks]
    all_goals first | (intro t; pointwise [row, score]) | pointwise [part, row, score]
  · intro l
    simp only [pay18_at, pay21_at, pay23_at, pay27_at, pay29_at]
    rw [pay30_eq (s := score x0 x1 1 r)]
    rw [wsum, Soft.sum_chunks]
    all_goals first | (intro t; pointwise [row, score]) | pointwise [part, row, score]

end Cert.Body

end
-- ==== Proof.Prefix.lean ====
/- The host operations before the kernel: the packed queries, keys, values and gates, read at an index. Lane
   `128 h + d` of a packed row is lane `d` of head `h`; heads 0–3 are the first head set, 4–7 the second. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Prefix

open Cert.KernelIdeal Cert.KernelIdeal.Gen Idealize.ShloMosaic Idealize.ShloMosaic.TcCoe Idealize.SL.Sem

variable (m : (ℓ : Loc nD τ sig) → Buf (Elt Ideal) ℓ)

/-! ## The arguments, as arrays of extended reals -/

section Args
variable (c : Dev nD)
def qA : S4x4096x4x96.Idx → EReal := m ((c.tc : Thread nD τ).loc main_arg0)
def kAc : S4x256x4x96.Idx → EReal := m ((c.tc : Thread nD τ).loc main_arg1)
def kAl : S4x4096x4x96.Idx → EReal := m ((c.tc : Thread nD τ).loc main_arg2)
def vAc : S4x256x4x64.Idx → EReal := m ((c.tc : Thread nD τ).loc main_arg3)
def vAl : S4x4096x4x64.Idx → EReal := m ((c.tc : Thread nD τ).loc main_arg4)
def gA : S4x4096x256.Idx → EReal := m ((c.tc : Thread nD τ).loc main_arg5)
def qB : S4x4096x4x64.Idx → EReal := m ((c.tc : Thread nD τ).loc main_arg6)
def kBc : S4x256x2x64.Idx → EReal := m ((c.tc : Thread nD τ).loc main_arg7)
def kBl : S4x4096x2x64.Idx → EReal := m ((c.tc : Thread nD τ).loc main_arg8)
def vBc : S4x256x2x64.Idx → EReal := m ((c.tc : Thread nD τ).loc main_arg9)
def vBl : S4x4096x2x64.Idx → EReal := m ((c.tc : Thread nD τ).loc main_arg10)
def gB : S4x4096x256.Idx → EReal := m ((c.tc : Thread nD τ).loc main_arg11)
end Args

/-- Tokens in the kernel's order, latent rows first: row `t` of the two arrays joined. -/
def tok {H D : ℕ} (ctx : (⟨4, ![4, 256, H, D]⟩ : Shape).Idx → EReal) (lat : (⟨4, ![4, 4096, H, D]⟩ : Shape).Idx → EReal)
    (b : Fin 4) (t : Fin 4352) (h : Fin H) (d : Fin D) : EReal :=
  if ht : t.val < 4096 then lat (ix4 b ⟨t, ht⟩ h d) else ctx (ix4 b ⟨t - 4096, by omega⟩ h d)

/-- The query scale of a head of `D` lanes, as the host computes it: `1 / (√D · log 2)`. -/
def scale (w : BitVec 32) : EReal := Ideal.div 1 (Ideal.sqrt (Ideal.ofBits FTy.f32 w) * Ideal.log (Ideal.ofBits FTy.f32 1073741824#32))

/-- Whether lane `d` lies in the half of the 128 lanes that head `h` owns, as the host tests it on integer words. -/
theorem own_half : ∀ (h : Fin 8) (d : Fin 128), IntOp.cmpi CmpIPredicate.eq (IntOp.andi (BitVec.ofNat 32 h) 1#32)
    (IntOp.shrui ArithUnit.host (BitVec.ofNat 32 d) 6#32) = if h.val % 2 = d.val / 64 then 1#1 else 0#1 := by decide +kernel

theorem own_half4 : ∀ (h : Fin 4) (d : Fin 128), IntOp.cmpi CmpIPredicate.eq (IntOp.andi (BitVec.ofNat 32 h) 1#32)
    (IntOp.shrui ArithUnit.host (BitVec.ofNat 32 d) 6#32) = if h.val % 2 = d.val / 64 then 1#1 else 0#1 := by decide +kernel

section At
variable (c : Dev nD) (b : Fin 4) (n : Fin 4096) (t : Fin 4352)

set_option maxHeartbeats 4000000 in
/-- A query of the first head set: 96 scaled lanes, then zeros. -/
theorem qA_at (h : Fin 4) (d : Fin 128) (L : Fin 1024) (hL : L.val = 128 * h + d) :
    V m c main_v65 (ix3 b ⟨n, by omega⟩ L) = (if hd : d.val < 96 then qA m c (ix4 b n h ⟨d, hd⟩) * scale 1119879168#32 else 0 : EReal) := by
  have e1 : L.val / 128 = h.val := by omega
  have e2 : L.val % 128 = d.val := by omega
  dsimp only [V, hostOps0]
  after_results
  pointwise [e1, e2, qA, scale]

set_option maxHeartbeats 4000000 in
/-- A query of the second head set: its 64 scaled lanes in its own half, zeros in the other. -/
theorem qB_at (h : Fin 4) (d : Fin 128) (L : Fin 1024) (hL : L.val = 128 * (4 + h) + d) :
    V m c main_v65 (ix3 b ⟨n, by omega⟩ L) =
      (if h.val % 2 = d.val / 64 then qB m c (ix4 b n h ⟨d % 64, by omega⟩) * scale 1115684864#32 else 0 : EReal) := by
  have e1 : L.val / 128 = 4 + h.val := by omega
  have e2 : L.val % 128 = d.val := by omega
  have e3 : 4 + h.val - 4 = h.val := by omega
  have e4 : ¬ (4 + h.val < 4) := by omega
  dsimp only [V, hostOps0]
  after_results
  pointwise [e1, e2, e3, e4, own_half4, qB, scale]
  rcases (by omega : d.val < 64 ∧ d.val % 64 = d.val ∨ ¬ d.val < 64 ∧ d.val % 64 = d.val - 64) with ⟨h1, h2⟩ | ⟨h1, h2⟩ <;>
    by_cases h5 : h.val % 2 = d.val / 64 <;> simp only [h1, h2, h5, Scalar.select, dite_true, dite_false, if_true, if_false] <;> rfl

/-- The flattened rows are the rows of heads. -/
theorem flat_at (x : S4x4352x8x128.Idx → EReal) (L : Fin 1024) :
    (truncf (F := Ideal) .bf16 (shapeCast S4x4352x1024 x shapeCasts_S4x4352x8x128_S4x4352x1024) bitsLt_bf16_f32 : S4x4352x1024.Idx → EReal) (ix3 b t L)
      = x (ix4 b t ⟨L / 128, by omega⟩ ⟨L % 128, by omega⟩) := by
  pointwise

/-- A pair's two query heads read the same key (or value) head. -/
theorem perHead_at (x : S4x4352x2x64.Idx → EReal) (h : Fin 4) (e : Fin 64) :
    shapeCast S4x4352x4x64 (broadcastInDim S4x4352x2x2x64 ![0, 1, 2, 3, 4] bcast_S4x4352x2x1x64_S4x4352x2x2x64_0_1_2_3_4
      (broadcastInDim S4x4352x2x1x64 ![0, 1, 2, 4] bcast_S4x4352x2x64_S4x4352x2x1x64_0_1_2_4 x)) shapeCasts_S4x4352x2x2x64_S4x4352x4x64 (ix4 b t h e)
      = x (ix4 b t ⟨h / 2, by omega⟩ e) := by
  pointwise

/-! ### The stages of the packing, each from the ones before it -/

set_option maxHeartbeats 4000000 in
theorem v27_eq : (V m c main_v27 : S4x4352x4x96.Idx → EReal) =
    concatenate S4x4352x4x96 1 [⟨S4x4096x4x96, kAl m c⟩, ⟨S4x256x4x96, kAc m c⟩] concatenates_S4x4096x4x96_S4x256x4x96_S4x4352x4x96_d1 := by
  dsimp only [V, hostOps0]
  after_results
  all_goals rfl

set_option maxHeartbeats 4000000 in
theorem v30_eq : (V m c main_v30 : S4x4352x2x64.Idx → EReal) =
    concatenate S4x4352x2x64 1 [⟨S4x4096x2x64, kBl m c⟩, ⟨S4x256x2x64, kBc m c⟩] concatenates_S4x4096x2x64_S4x256x2x64_S4x4352x2x64_d1 := by
  dsimp only [V, hostOps0]
  after_results
  all_goals rfl

set_option maxHeartbeats 4000000 in
theorem v33_eq : (V m c main_v33 : S4x4352x4x64.Idx → EReal) =
    shapeCast S4x4352x4x64 (broadcastInDim S4x4352x2x2x64 ![0, 1, 2, 3, 4] bcast_S4x4352x2x1x64_S4x4352x2x2x64_0_1_2_3_4
      (broadcastInDim S4x4352x2x1x64 ![0, 1, 2, 4] bcast_S4x4352x2x64_S4x4352x2x1x64_0_1_2_4 (V m c main_v30 : S4x4352x2x64.Idx → EReal))) shapeCasts_S4x4352x2x2x64_S4x4352x4x64 := by
  dsimp only [V, hostOps0]
  after_results
  all_goals rfl

set_option maxHeartbeats 4000000 in
theorem v35_eq : (V m c main_v35 : S4x4352x8x128.Idx → EReal) =
    concatenate S4x4352x8x128 2
      [⟨S4x4352x4x128, concatenate S4x4352x4x128 3 [⟨S4x4352x4x96, (V m c main_v27 : S4x4352x4x96.Idx → EReal)⟩,
          ⟨S4x4352x4x32, broadcastInDim S4x4352x4x32 ![] bcast_S_S4x4352x4x32 (constant (F := Ideal) S_ .f32 0x00000000#32)⟩] concatenates_S4x4352x4x96_S4x4352x4x32_S4x4352x4x128_d3⟩,
       ⟨S4x4352x4x128, concatenate S4x4352x4x128 3 [⟨S4x4352x4x64, (V m c main_v33 : S4x4352x4x64.Idx → EReal)⟩, ⟨S4x4352x4x64, (V m c main_v33 : S4x4352x4x64.Idx → EReal)⟩]
          concatenates_S4x4352x4x64_S4x4352x4x64_S4x4352x4x128_d3⟩] concatenates_S4x4352x4x128_S4x4352x4x128_S4x4352x8x128_d2 := by
  dsimp only [V, hostOps0]
  after_results
  all_goals rfl

set_option maxHeartbeats 4000000 in
theorem v67_eq : (V m c main_v67 : S4x4352x1024.Idx → EReal) =
    truncf (F := Ideal) .bf16 (shapeCast S4x4352x1024 (V m c main_v35 : S4x4352x8x128.Idx → EReal) shapeCasts_S4x4352x8x128_S4x4352x1024) bitsLt_bf16_f32 := by
  dsimp only [V, hostOps0]
  after_results
  all_goals rfl

set_option maxHeartbeats 4000000 in
theorem v36_eq : (V m c main_v36 : S4x4352x4x64.Idx → EReal) =
    concatenate S4x4352x4x64 1 [⟨S4x4096x4x64, vAl m c⟩, ⟨S4x256x4x64, vAc m c⟩] concatenates_S4x4096x4x64_S4x256x4x64_S4x4352x4x64_d1 := by
  dsimp only [V, hostOps0]
  after_results
  all_goals rfl

set_option maxHeartbeats 4000000 in
theorem v37_eq : (V m c main_v37 : S4x4352x2x64.Idx → EReal) =
    concatenate S4x4352x2x64 1 [⟨S4x4096x2x64, vBl m c⟩, ⟨S4x256x2x64, vBc m c⟩] concatenates_S4x4096x2x64_S4x256x2x64_S4x4352x2x64_d1 := by
  dsimp only [V, hostOps0]
  after_results
  all_goals rfl

set_option maxHeartbeats 4000000 in
theorem v40_eq : (V m c main_v40 : S4x4352x4x64.Idx → EReal) =
    shapeCast S4x4352x4x64 (broadcastInDim S4x4352x2x2x64 ![0, 1, 2, 3, 4] bcast_S4x4352x2x1x64_S4x4352x2x2x64_0_1_2_3_4
      (broadcastInDim S4x4352x2x1x64 ![0, 1, 2, 4] bcast_S4x4352x2x64_S4x4352x2x1x64_0_1_2_4 (V m c main_v37 : S4x4352x2x64.Idx → EReal))) shapeCasts_S4x4352x2x2x64_S4x4352x4x64 := by
  dsimp only [V, hostOps0]
  after_results
  all_goals rfl

set_option maxHeartbeats 4000000 in
theorem v41_eq : (V m c main_v41 : S4x4352x8x64.Idx → EReal) =
    concatenate S4x4352x8x64 2 [⟨S4x4352x4x64, (V m c main_v36 : S4x4352x4x64.Idx → EReal)⟩, ⟨S4x4352x4x64, (V m c main_v40 : S4x4352x4x64.Idx → EReal)⟩]
      concatenates_S4x4352x4x64_S4x4352x4x64_S4x4352x8x64_d2 := by
  dsimp only [V, hostOps0]
  after_results
  all_goals rfl

set_option maxHeartbeats 4000000 in
theorem v51_eq : (V m c main_v51 : S4x4352x8x128.Idx → EReal) =
    select (cmpi .eq (andi (iotaInDim S4x4352x8x128 32 2) (broadcastInDim S4x4352x8x128 ![] bcast_S_S4x4352x8x128 (constantI S_ 32 1#32)))
        (Host.shrui (iotaInDim S4x4352x8x128 32 3) (broadcastInDim S4x4352x8x128 ![] bcast_S_S4x4352x8x128 (constantI S_ 32 6#32))))
      (concatenate S4x4352x8x128 3 [⟨S4x4352x8x64, (V m c main_v41 : S4x4352x8x64.Idx → EReal)⟩, ⟨S4x4352x8x64, (V m c main_v41 : S4x4352x8x64.Idx → EReal)⟩]
        concatenates_S4x4352x8x64_S4x4352x8x64_S4x4352x8x128_d3)
      (broadcastInDim S4x4352x8x128 ![] bcast_S_S4x4352x8x128 (constant (F := Ideal) S_ .f32 0x3F800000#32)) := by
  dsimp only [V, hostOps0]
  after_results
  all_goals rfl

set_option maxHeartbeats 4000000 in
theorem v69_eq : (V m c main_v69 : S4x4352x1024.Idx → EReal) =
    truncf (F := Ideal) .bf16 (shapeCast S4x4352x1024 (V m c main_v51 : S4x4352x8x128.Idx → EReal) shapeCasts_S4x4352x8x128_S4x4352x1024) bitsLt_bf16_f32 := by
  dsimp only [V, hostOps0]
  after_results
  all_goals rfl

/-! ### The packed keys and values at an index -/

theorem v27_at (h : Fin 4) (d : Fin 96) : (V m c main_v27 : S4x4352x4x96.Idx → EReal) (ix4 b t h d) = tok (kAc m c) (kAl m c) b t h d := by
  rw [v27_eq]; pointwise [tok]
theorem v30_at (h : Fin 2) (d : Fin 64) : (V m c main_v30 : S4x4352x2x64.Idx → EReal) (ix4 b t h d) = tok (kBc m c) (kBl m c) b t h d := by
  rw [v30_eq]; pointwise [tok]
theorem v36_at (h : Fin 4) (d : Fin 64) : (V m c main_v36 : S4x4352x4x64.Idx → EReal) (ix4 b t h d) = tok (vAc m c) (vAl m c) b t h d := by
  rw [v36_eq]; pointwise [tok]
theorem v37_at (h : Fin 2) (d : Fin 64) : (V m c main_v37 : S4x4352x2x64.Idx → EReal) (ix4 b t h d) = tok (vBc m c) (vBl m c) b t h d := by
  rw [v37_eq]; pointwise [tok]

/-- The head a packed lane belongs to, and the lane within it. -/
theorem head_lane {n h d : ℕ} (hL : n = 128 * h + d) (hd : d < 128) : n / 128 = h ∧ n % 128 = d := by omega

/-- A key of the first head set: 96 lanes, then zeros. -/
theorem kA_at (h : Fin 4) (d : Fin 128) (L : Fin 1024) (hL : L.val = 128 * h + d) :
    V m c main_v67 (ix3 b t L) = (if hd : d.val < 96 then tok (kAc m c) (kAl m c) b t h ⟨d, hd⟩ else 0 : EReal) := by
  obtain ⟨e1, e2⟩ := head_lane hL d.isLt
  rw [v67_eq, flat_at, v35_eq]
  simp only [e1, e2]
  generalize (V m c main_v33 : S4x4352x4x64.Idx → EReal) = x
  have e := v27_at m c b t
  revert e
  generalize (V m c main_v27 : S4x4352x4x96.Idx → EReal) = y
  intro e
  pointwise [e]

/-- A key of the second head set: the 64 lanes of its pair's key in both halves. -/
theorem kB_at (h : Fin 4) (d : Fin 128) (L : Fin 1024) (hL : L.val = 128 * (4 + h) + d) :
    V m c main_v67 (ix3 b t L) = tok (kBc m c) (kBl m c) b t ⟨h / 2, by omega⟩ ⟨d % 64, by omega⟩ := by
  obtain ⟨e1, e2⟩ := head_lane hL d.isLt
  have e3 : 4 + h.val - 4 = h.val := by omega
  have e4 : ¬ (4 + h.val < 4) := by omega
  have e : ∀ (h : Fin 4) (e : Fin 64), (V m c main_v33 : S4x4352x4x64.Idx → EReal) (ix4 b t h e) = tok (kBc m c) (kBl m c) b t ⟨h / 2, by omega⟩ e :=
    fun h e => by rw [v33_eq, perHead_at, v30_at]
  rw [v67_eq, flat_at, v35_eq]
  simp only [e1, e2]
  generalize (V m c main_v27 : S4x4352x4x96.Idx → EReal) = x
  revert e
  generalize (V m c main_v33 : S4x4352x4x64.Idx → EReal) = y
  intro e
  pointwise [e3, e4, e]
  split
  · congr 1; ext; dsimp only; omega
  · congr 1; ext; dsimp only; omega

/-- A value of head `h` of the eight, in the kernel's token order. -/
def val (h : Fin 8) (e : Fin 64) : EReal :=
  if hh : h.val < 4 then tok (vAc m c) (vAl m c) b t ⟨h, hh⟩ e else tok (vBc m c) (vBl m c) b t ⟨(h - 4) / 2, by omega⟩ e

theorem v41_at (h : Fin 8) (e : Fin 64) : (V m c main_v41 : S4x4352x8x64.Idx → EReal) (ix4 b t h e) = val m c b t h e := by
  have e40 : ∀ (h : Fin 4) (e : Fin 64), (V m c main_v40 : S4x4352x4x64.Idx → EReal) (ix4 b t h e) = tok (vBc m c) (vBl m c) b t ⟨h / 2, by omega⟩ e :=
    fun h e => by rw [v40_eq, perHead_at, v37_at]
  have e36 := v36_at m c b t
  rw [v41_eq]
  revert e40 e36
  generalize (V m c main_v40 : S4x4352x4x64.Idx → EReal) = y
  generalize (V m c main_v36 : S4x4352x4x64.Idx → EReal) = z
  intro e40 e36
  pointwise [e36, e40, val]

/-- A packed value row: its 64 lanes in the head's own half, ones in the other. -/
theorem v_at (h : Fin 8) (d : Fin 128) (L : Fin 1024) (hL : L.val = 128 * h + d) :
    V m c main_v69 (ix3 b t L) = (if h.val % 2 = d.val / 64 then val m c b t h ⟨d % 64, by omega⟩ else 1 : EReal) := by
  obtain ⟨e1, e2⟩ := head_lane hL d.isLt
  have e41 := v41_at m c b t
  rw [v69_eq, flat_at, v51_eq]
  simp only [e1, e2]
  revert e41
  generalize (V m c main_v41 : S4x4352x8x64.Idx → EReal) = y
  intro e41
  pointwise [e41, own_half]
  rcases (by omega : d.val < 64 ∧ d.val % 64 = d.val ∨ ¬ d.val < 64 ∧ d.val % 64 = d.val - 64) with ⟨h1, h2⟩ | ⟨h1, h2⟩ <;>
    by_cases h5 : h.val % 2 = d.val / 64 <;> simp [h1, h2, h5, Scalar.select]

/-- A gate, before its activation: the first head set's 256 lanes, then the second's. -/
def gate (L : Fin 512) : EReal :=
  if hh : L.val < 256 then gA m c (ix3 b n ⟨L, hh⟩) else gB m c (ix3 b n ⟨L - 256, by omega⟩)

set_option maxHeartbeats 4000000 in
/-- A packed gate: `g · 1 / (1 + e^(-g))`. -/
theorem g_at (L : Fin 512) :
    V m c main_v70 (ix3 b ⟨n, by omega⟩ ⟨L, by omega⟩) = gate m c b n L * Ideal.div 1 (1 + Ideal.exp (-gate m c b n L)) := by
  dsimp only [V, hostOps0]
  after_results
  pointwise [gA, gB, gate]

end At

end Cert.Prefix

end
-- ==== Proof.Run.lean ====
/- The result array after the run, element by element: block `(b, i, p)` holds rows `1024 i + r` of batch `b`, lanes
   `128 p + l`: the two heads of pair `p`. -/
module

public import proofs.«01_k».proof.Proof.Gen.KernelIdeal.Value
public import proofs.«01_k».proof.Proof.Body
public import proofs.«01_k».proof.Proof.Prefix

@[expose] public section

set_option maxRecDepth 16384

noncomputable section

namespace Cert.Run

open Cert.KernelIdeal Cert.KernelIdeal.Gen Cert.Prefix Idealize.ShloMosaic Idealize.ShloMosaic.TcCoe Idealize.SL.Sem

variable (m : (ℓ : Loc nD τ sig) → Buf (Elt Ideal) ℓ) (c : Dev nD)

/-- The packed queries, as the kernel's first window reads them. -/
def qs : S4x4352x1024.Idx → EReal := V m c main_v65
/-- The packed keys. -/
def ks : S4x4352x1024.Idx → EReal := V m c main_v67
/-- The packed values and ones. -/
def vs : S4x4352x1024.Idx → EReal := V m c main_v69
/-- The gates. -/
def gs : S4x4352x1024.Idx → EReal := V m c main_v70

/-- The score of head `h`'s query at token `n` against its key at token `t`: the product of their 128 packed lanes. -/
def logit (b : Fin 4) (n : Fin 4096) (h : Fin 8) (t : Fin 4352) : EReal :=
  ∑ d : Fin 128, qs m c (ix3 b ⟨n, by omega⟩ ⟨128 * h + d, by omega⟩) * ks m c (ix3 b t ⟨128 * h + d, by omega⟩)

/-- What the kernel leaves for head `h` at token `n`, lane `e`. -/
def out (b : Fin 4) (n : Fin 4096) (h : Fin 8) (e : Fin 64) : EReal :=
  Ideal.div (∑ t, Ideal.exp2 (logit m c b n h t - ⨆ t, logit m c b n h t) * val m c b t h e)
      (∑ t, Ideal.exp2 (logit m c b n h t - ⨆ t, logit m c b n h t) * 1)
    * (gate m c b n ⟨64 * h + e, by omega⟩ * Ideal.div 1 (1 + Ideal.exp (-gate m c b n ⟨64 * h + e, by omega⟩)))

/-- The windows' arrays by their names. -/
theorem arr_q : V m c (Pipeline.arrRef spec0 0) = qs m c := by unfold qs; with_reducible rfl
theorem arr_k : V m c (Pipeline.arrRef spec0 1) = ks m c := by unfold ks; with_reducible rfl
theorem arr_v : V m c (Pipeline.arrRef spec0 2) = vs m c := by unfold vs; with_reducible rfl
theorem arr_g : V m c (Pipeline.arrRef spec0 3) = gs m c := by unfold gs; with_reducible rfl

/-- Every window's block index, in terms of the output's, and the latter's ranges. -/
theorem index_facts : ∀ t : Fin cfg0.grid.N,
    (win0_4.index t 0 < 4 ∧ win0_4.index t 1 < 4 ∧ win0_4.index t 2 < 4)
    ∧ (win0_0.index t 0 = win0_4.index t 0 ∧ win0_0.index t 1 = win0_4.index t 1 ∧ win0_0.index t 2 = win0_4.index t 2)
    ∧ (win0_1.index t 0 = win0_4.index t 0 ∧ win0_1.index t 1 = 0 ∧ win0_1.index t 2 = win0_4.index t 2)
    ∧ (win0_2.index t 0 = win0_4.index t 0 ∧ win0_2.index t 1 = 0 ∧ win0_2.index t 2 = win0_4.index t 2)
    ∧ (win0_3.index t 0 = win0_4.index t 0 ∧ win0_3.index t 1 = win0_4.index t 1 ∧ win0_3.index t 2 = win0_4.index t 2) := by
  decide +kernel

section Block

variable (t : Fin cfg0.grid.N) (b i p : Fin 4) (h0 : win0_4.index t 0 = b) (h1 : win0_4.index t 1 = i) (h2 : win0_4.index t 2 = p)
include h0 h1 h2

/-- Where window 0's block lies in its array. -/
theorem q_place (r : Fin 1024) (d : Fin 256) (y : ((cfg0.win 0).xblock (cfg0.grid.coords t)).Idx)
    (y0 : (y (0 : Fin 3)).val = 0) (y1 : (y (1 : Fin 3)).val = r) (y2 : (y (2 : Fin 3)).val = d) :
    ((cfg0.win 0).blk t).view.emb y = (ix3 b ⟨1024 * i + r, by omega⟩ ⟨256 * p + d, by omega⟩ : S4x4352x1024.Idx) := by
  obtain ⟨-, ⟨e0, e1, e2⟩, -⟩ := index_facts t
  rw [h0] at e0; rw [h2] at e2; rw [h1] at e1
  blk_ext [e0, e1, e2]

/-- The query block of a point. -/
theorem q_block (r : Fin 1024) (d : Fin 256) :
    X0_0 m c t (ix3 0 r d) = qs m c (ix3 b ⟨1024 * i + r, by omega⟩ ⟨256 * p + d, by omega⟩) := by
  unfold X0_0 Pipeline.Window.fill iblk
  have hx := arr_q m c
  revert hx
  generalize V m c (Pipeline.arrRef spec0 0) = x
  generalize qs m c = y
  intro hx
  subst hx
  rw [dif_pos (moved0_0 t _)]
  rw [View.read_apply]
  rw [q_place t b i p h0 h1 h2 r d _ rfl rfl rfl]
  exact cast_eq rfl _

/-- Where window 1's block lies in its array. -/
theorem k_place (r : Fin 4352) (d : Fin 256) :
    ((cfg0.win 1).blk t).view.emb (ix3 0 r d) = (ix3 b r ⟨256 * p + d, by omega⟩ : S4x4352x1024.Idx) := by
  obtain ⟨-, -, ⟨e0, e1, e2⟩, -⟩ := index_facts t
  rw [h0] at e0; rw [h2] at e2
  blk_ext [e0, e1, e2]

/-- The key block of a point. -/
theorem k_block (r : Fin 4352) (d : Fin 256) :
    iblk m c 1 t (ix3 0 r d) = ks m c (ix3 b r ⟨256 * p + d, by omega⟩) := by
  unfold iblk
  have hx := arr_k m c
  revert hx
  generalize V m c (Pipeline.arrRef spec0 1) = x
  generalize ks m c = y
  intro hx
  subst hx
  rw [View.read_apply]
  rw [k_place t b i p h0 h1 h2 r d]
  exact cast_eq rfl _

/-- Where window 2's block lies in its array. -/
theorem v_place (r : Fin 4352) (d : Fin 256) :
    ((cfg0.win 2).blk t).view.emb (ix3 0 r d) = (ix3 b r ⟨256 * p + d, by omega⟩ : S4x4352x1024.Idx) := by
  obtain ⟨-, -, -, ⟨e0, e1, e2⟩, -⟩ := index_facts t
  rw [h0] at e0; rw [h2] at e2
  blk_ext [e0, e1, e2]

/-- The value block of a point. -/
theorem v_block (r : Fin 4352) (d : Fin 256) :
    iblk m c 2 t (ix3 0 r d) = vs m c (ix3 b r ⟨256 * p + d, by omega⟩) := by
  unfold iblk
  have hx := arr_v m c
  revert hx
  generalize V m c (Pipeline.arrRef spec0 2) = x
  generalize vs m c = y
  intro hx
  subst hx
  rw [View.read_apply]
  rw [v_place t b i p h0 h1 h2 r d]
  exact cast_eq rfl _

/-- Where window 3's block lies in its array. -/
theorem g_place (r : Fin 1024) (d : Fin 128) (y : ((cfg0.win 3).xblock (cfg0.grid.coords t)).Idx)
    (y0 : (y (0 : Fin 3)).val = 0) (y1 : (y (1 : Fin 3)).val = r) (y2 : (y (2 : Fin 3)).val = d) :
    ((cfg0.win 3).blk t).view.emb y = (ix3 b ⟨1024 * i + r, by omega⟩ ⟨128 * p + d, by omega⟩ : S4x4352x1024.Idx) := by
  obtain ⟨-, -, -, -, ⟨e0, e1, e2⟩⟩ := index_facts t
  rw [h0] at e0; rw [h2] at e2; rw [h1] at e1
  blk_ext [e0, e1, e2]

/-- The gate block of a point. -/
theorem g_block (r : Fin 1024) (d : Fin 128) :
    X0_3 m c t (ix3 0 r d) = gs m c (ix3 b ⟨1024 * i + r, by omega⟩ ⟨128 * p + d, by omega⟩) := by
  unfold X0_3 Pipeline.Window.fill iblk
  have hx := arr_g m c
  revert hx
  generalize V m c (Pipeline.arrRef spec0 3) = x
  generalize gs m c = y
  intro hx
  subst hx
  rw [dif_pos (moved0_3 t _)]
  rw [View.read_apply]
  rw [g_place t b i p h0 h1 h2 r d _ rfl rfl rfl]
  exact cast_eq rfl _

/-- Where the output's block lies in its array. -/
theorem o_place (r : Fin 1024) (d : Fin 128) (y : ((cfg0.win 4).xblock (cfg0.grid.coords t)).Idx)
    (y0 : (y (0 : Fin 3)).val = 0) (y1 : (y (1 : Fin 3)).val = r) (y2 : (y (2 : Fin 3)).val = d) :
    ((cfg0.win 4).blk t).view.emb y = (ix3 b ⟨1024 * i + r, by omega⟩ ⟨128 * p + d, by omega⟩ : S4x4096x512.Idx) := by
  blk_ext [h0, h1, h2]

/-- A block's score is the head's logit. -/
theorem score_eq (r : Fin 1024) (j : Fin 2) (s : Fin 4352) :
    Body.score (X0_0 m c t) (iblk m c 1 t) j r s = logit m c b ⟨1024 * i + r, by omega⟩ ⟨2 * p + j, by omega⟩ s := by
  unfold Body.score logit
  refine Finset.sum_congr rfl fun d _ => ?_
  rw [q_block m c t b i p h0 h1 h2, k_block m c t b i p h0 h1 h2]
  have e : (⟨256 * p + (⟨128 * j + d, by omega⟩ : Fin 256), by dsimp only; omega⟩ : Fin 1024)
      = ⟨128 * (⟨2 * p + j, by omega⟩ : Fin 8) + d, by dsimp only; omega⟩ := Fin.ext (by dsimp only; omega)
  rw [e]

/-- A block's weighted sum of its value lanes, the lanes read as the host laid them out. -/
theorem wsum_eq (r : Fin 1024) (j : Fin 2) (l : Fin 128) :
    Body.wsum (X0_0 m c t) (iblk m c 1 t) (iblk m c 2 t) j r l
      = ∑ s, Ideal.exp2 (logit m c b ⟨1024 * i + r, by omega⟩ ⟨2 * p + j, by omega⟩ s
            - ⨆ s, logit m c b ⟨1024 * i + r, by omega⟩ ⟨2 * p + j, by omega⟩ s)
          * (if j.val = l.val / 64 then val m c b s ⟨2 * p + j, by omega⟩ ⟨l % 64, by omega⟩ else 1) := by
  unfold Body.wsum
  simp only [score_eq m c t b i p h0 h1 h2]
  refine Finset.sum_congr rfl fun s _ => ?_
  rw [v_block m c t b i p h0 h1 h2]
  unfold vs
  rw [v_at m c b s ⟨2 * p + j, by omega⟩ l _ (by dsimp only; omega)]
  have e : ((⟨2 * p + j, by omega⟩ : Fin 8).val % 2 = l.val / 64) = (j.val = l.val / 64) := by
    apply propext; dsimp only; omega
  simp only [e]

/-- What a point leaves at row `r`, lane `l` of its block. -/
theorem point (r : Fin 1024) (l : Fin 128) :
    outsAt0 m c t (ix3 0 r l)
      = out m c b ⟨1024 * i + r, by omega⟩ ⟨2 * p + l / 64, by omega⟩ ⟨l % 64, by omega⟩ := by
  rw [Body.outs_at, g_block m c t b i p h0 h1 h2]
  simp only [wsum_eq m c t b i p h0 h1 h2]
  unfold gs out
  have hg := g_at m c b ⟨1024 * i + r, by omega⟩ ⟨128 * p + l, by omega⟩
  have eg : (⟨64 * (⟨2 * p + l / 64, by omega⟩ : Fin 8) + (⟨l % 64, by omega⟩ : Fin 64), by dsimp only; omega⟩ : Fin 512)
      = ⟨128 * p + l, by omega⟩ := Fin.ext (by dsimp only; omega)
  rw [eg, ← hg]
  congr 1
  by_cases hl : l.val < 64
  · have e0 : (⟨2 * p + l / 64, by omega⟩ : Fin 8) = ⟨2 * p + (0 : Fin 2), by simp; omega⟩ := Fin.ext (by simp; omega)
    rw [if_pos hl, e0]
    have e1 : ((0 : Fin 2).val = l.val / 64) := by simp; omega
    have e2 : ¬ ((0 : Fin 2).val = (Body.rot l).val / 64) := by simp [Body.rot]; omega
    simp only [if_pos e1, if_neg e2]
  · have e0 : (⟨2 * p + l / 64, by omega⟩ : Fin 8) = ⟨2 * p + (1 : Fin 2), by simp; omega⟩ := Fin.ext (by simp; omega)
    rw [if_neg hl, e0]
    have e1 : ((1 : Fin 2).val = l.val / 64) := by simp; omega
    have e2 : ¬ ((1 : Fin 2).val = (Body.rot l).val / 64) := by simp [Body.rot]; omega
    simp only [if_pos e1, if_neg e2]

end Block

/-- The result array from its blocks: what every point leaves at `(r, l)` of its block. -/
theorem arr_of_blocks (G : S4x4096x512.Idx → EReal)
    (hG : ∀ (t : Fin cfg0.grid.N) (b i p : Fin 4), win0_4.index t 0 = b → win0_4.index t 1 = i → win0_4.index t 2 = p →
      ∀ (r : Fin 1024) (l : Fin 128), outsAt0 m c t (ix3 0 r l) = G (ix3 b ⟨1024 * i + r, by omega⟩ ⟨128 * p + l, by omega⟩)) :
    (dats m 0 c).arrAt 4 cfg0.N = G := by
  refine (dats m 0 c).arrAt_eq_of_covers 4 _ (by decide +kernel) fun t hf y => ?_
  obtain ⟨⟨e0, e1, e2⟩, -⟩ := index_facts t
  have b0 : (y (0 : Fin 3)).val < 1 := (y (0 : Fin 3)).isLt
  have b1 : (y (1 : Fin 3)).val < 1024 := (y (1 : Fin 3)).isLt
  have b2 : (y (2 : Fin 3)).val < 128 := (y (2 : Fin 3)).isLt
  have key := hG t ⟨_, e0⟩ ⟨_, e1⟩ ⟨_, e2⟩ rfl rfl rfl ⟨_, b1⟩ ⟨_, b2⟩
  have hp := o_place t ⟨_, e0⟩ ⟨_, e1⟩ ⟨_, e2⟩ rfl rfl rfl ⟨_, b1⟩ ⟨_, b2⟩ y (by omega) rfl rfl
  rw [← hp] at key
  have hy : y = (ix3 0 ⟨_, b1⟩ ⟨_, b2⟩ : (⟨3, ![1, 1024, 128]⟩ : Shape).Idx) := by
    funext a; apply Fin.ext
    fin_cases a
    · exact (Nat.lt_one_iff.mp b0)
    · rfl
    · rfl
  rw [← hy] at key
  blk_simp
  rw [after0_4]
  exact key

/-- The kernel's result, element by element: lane `L` belongs to head `L / 64`. -/
theorem arr_eq : (dats m 0 c).arrAt 4 cfg0.N
    = fun i : S4x4096x512.Idx => out m c (i (0 : Fin 3)) (i (1 : Fin 3))
        ⟨(i (2 : Fin 3)).val / 64, Nat.div_lt_of_lt_mul (i (2 : Fin 3)).isLt⟩ ⟨(i (2 : Fin 3)).val % 64, Nat.mod_lt _ (by decide)⟩ := by
  refine arr_of_blocks m c _ fun t b i p h0 h1 h2 r l => ?_
  rw [point m c t b i p h0 h1 h2]
  have e1 : (⟨2 * p + l / 64, by omega⟩ : Fin 8) = ⟨(128 * p + l) / 64, by omega⟩ := Fin.ext (by dsimp only; omega)
  have e2 : (⟨l % 64, by omega⟩ : Fin 64) = ⟨(128 * p + l) % 64, by omega⟩ := Fin.ext (by dsimp only; omega)
  rw [e1, e2]
  rfl

end Cert.Run

end
-- ==== Proof.Ref.lean ====
/- The reference at an index: its scores, its row maxima, its softmax-weighted sums of values and its gates. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.Ref

open Cert.ReferenceIdeal Cert.ReferenceIdeal.Read Idealize.ShloMosaic

/-- The word of negative infinity. -/
theorem bot_bits : Ideal.ofBits FTy.f32 4286578688#32 = ⊥ := by simp [Ideal.ofBits, Ideal.ieee]

section PartA

variable (x0 : (⟨S4x4096x4x96, .f32⟩ : BufTy).Contents (Elt Ideal)) (x1 : (⟨S4x256x4x96, .f32⟩ : BufTy).Contents (Elt Ideal))
  (x2 : (⟨S4x4096x4x96, .f32⟩ : BufTy).Contents (Elt Ideal)) (x3 : (⟨S4x256x4x64, .f32⟩ : BufTy).Contents (Elt Ideal))
  (x4 : (⟨S4x4096x4x64, .f32⟩ : BufTy).Contents (Elt Ideal)) (x5 : (⟨S4x4096x256, .f32⟩ : BufTy).Contents (Elt Ideal))
  (b : Fin 4) (n : Fin 4096) (h : Fin 4)

/-- The reference's keys at a token: the context's 256, then the latents. -/
theorem keyA (k : Fin 4352) (d : Fin 96) : val_main_v1 x1 x2 (ix4 b k h d)
    = if hk : k.val < 256 then x1 (ix4 b ⟨k, hk⟩ h d) else x2 (ix4 b ⟨k - 256, by omega⟩ h d) := by
  pointwise [val_main_v1]

/-- The reference's values at a token. -/
theorem valueA (k : Fin 4352) (d : Fin 64) : val_main_v2 x3 x4 (ix4 b k h d)
    = if hk : k.val < 256 then x3 (ix4 b ⟨k, hk⟩ h d) else x4 (ix4 b ⟨k - 256, by omega⟩ h d) := by
  pointwise [val_main_v2]

/-- The reference's score of a query against a key. -/
theorem scoreA (k : Fin 4352) : val_main_v7 x0 x1 x2 (ix5 b h 0 n k)
    = Ideal.div (∑ d : Fin 96, val_main_v1 x1 x2 (ix4 b k h d) * x0 (ix4 b n h d)) (Ideal.sqrt (Ideal.ofBits .f32 1119879168#32)) := by
  unfold val_main_v7 val_main_v5 val_main_v4 val_main_v6 val_main_v3 val_main_v0 val_main_cst
  generalize val_main_v1 x1 x2 = y
  pointwise

/-- A row's maximum as a fold over its keys. -/
theorem foldA (y : S4x4x1x4096x4352.Idx → EReal) :
    Host.reduce (FloatOps.maximumf (F := Ideal) (φ := .f32)) y (val_main_cst_0 (F := Ideal)) Gen.reducesTo_S4x4x1x4096x4352_S4x4x1x4096_d4 Gen.h_S_ (ix4 b h 0 n)
      = Finset.univ.fold max (val_main_cst_0 (F := Ideal) (Shape.Idx.first Gen.h_S_)) fun k : Fin 4352 => y (ix5 b h 0 n k) := by
  pointwise

/-- What the reference subtracts from a row is the row's least upper bound. -/
theorem maxA (C : EReal) : val_main_v10 x0 x1 x2 (ix4 b h 0 n) ≤ C
    ↔ ∀ k : Fin 4352, val_main_v7 x0 x1 x2 (ix5 b h 0 n k) ≤ C := by
  rw [val_main_v10_apply, val_main_v9_apply]
  unfold val_main_v8
  generalize val_main_v7 x0 x1 x2 = y
  rw [foldA]
  show max (Ideal.ofBits .f32 4286578688#32) (Finset.univ.fold max (Ideal.ofBits .f32 4286578688#32) fun k : Fin 4352 => y (ix5 b h 0 n k)) ≤ C ↔ _
  rw [bot_bits, max_le_iff, Finset.fold_max_le]
  simp

/-- The reference's softmax-weighted sum of values, heads side by side. -/
theorem sumA (L : Fin 256) (e : Fin 64) (hL : L.val = 64 * h + e) : val_main_v21 x0 x1 x2 x3 x4 (ix3 b n L)
    = ∑ k : Fin 4352, Ideal.div (Ideal.exp (val_main_v7 x0 x1 x2 (ix5 b h 0 n k) - val_main_v10 x0 x1 x2 (ix4 b h 0 n)))
        (∑ k' : Fin 4352, Ideal.exp (val_main_v7 x0 x1 x2 (ix5 b h 0 n k') - val_main_v10 x0 x1 x2 (ix4 b h 0 n)))
      * val_main_v2 x3 x4 (ix4 b k h e) := by
  unfold val_main_v21 val_main_v20 val_main_v19 val_main_v18 val_main_v17 val_main_v16 val_main_v15 val_main_v14 val_main_v13 val_main_v12 val_main_v11 val_main_cst_2
  generalize val_main_v7 x0 x1 x2 = y
  generalize val_main_v10 x0 x1 x2 = z
  generalize val_main_v2 x3 x4 = w
  have b1 : L.val / 64 < 4 := by omega
  have b2 : L.val % 64 < 64 := by omega
  obtain rfl : h = ⟨L.val / 64, b1⟩ := Fin.ext (by dsimp only; omega)
  obtain rfl : e = ⟨L.val % 64, b2⟩ := Fin.ext (by dsimp only; omega)
  pointwise
  refine Finset.sum_congr rfl fun k _ => ?_
  exact mul_comm _ _

/-- The reference's gate. -/
theorem gateA (L : Fin 256) : val_main_v22 x5 (ix3 b n L) = x5 (ix3 b n L) * Ideal.div 1 (1 + Ideal.exp (-(x5 (ix3 b n L)))) := by
  unfold val_main_v22 val_main_call0_v5 val_main_call0_v4 val_main_call0_v3 val_main_call0_v2 val_main_call0_v1 val_main_call0_v0 val_main_call0_cst val_main_call0_cst_0
  pointwise

end PartA

section PartB

variable (x6 : (⟨S4x4096x4x64, .f32⟩ : BufTy).Contents (Elt Ideal)) (x7 : (⟨S4x256x2x64, .f32⟩ : BufTy).Contents (Elt Ideal))
  (x8 : (⟨S4x4096x2x64, .f32⟩ : BufTy).Contents (Elt Ideal)) (x9 : (⟨S4x256x2x64, .f32⟩ : BufTy).Contents (Elt Ideal))
  (x10 : (⟨S4x4096x2x64, .f32⟩ : BufTy).Contents (Elt Ideal)) (x11 : (⟨S4x4096x256, .f32⟩ : BufTy).Contents (Elt Ideal))
  (b : Fin 4) (n : Fin 4096) (u g : Fin 2)

/-- The reference's keys at a token: the context's 256, then the latents. -/
theorem keyB (k : Fin 4352) (d : Fin 64) : val_main_v25 x7 x8 (ix4 b k u d)
    = if hk : k.val < 256 then x7 (ix4 b ⟨k, hk⟩ u d) else x8 (ix4 b ⟨k - 256, by omega⟩ u d) := by
  pointwise [val_main_v25]

/-- The reference's values at a token. -/
theorem valueB (k : Fin 4352) (d : Fin 64) : val_main_v26 x9 x10 (ix4 b k u d)
    = if hk : k.val < 256 then x9 (ix4 b ⟨k, hk⟩ u d) else x10 (ix4 b ⟨k - 256, by omega⟩ u d) := by
  pointwise [val_main_v26]

/-- The reference's score of a query against a key. -/
theorem scoreB (k : Fin 4352) : val_main_v31 x6 x7 x8 (ix5 b u g n k)
    = Ideal.div (∑ d : Fin 64, val_main_v25 x7 x8 (ix4 b k u d) * x6 (ix4 b n ⟨u * 2 + g, by omega⟩ d)) (Ideal.sqrt (Ideal.ofBits .f32 1115684864#32)) := by
  unfold val_main_v31 val_main_v29 val_main_v28 val_main_v30 val_main_v27 val_main_v24 val_main_cst_3
  generalize val_main_v25 x7 x8 = y
  pointwise

/-- A row's maximum as a fold over its keys. -/
theorem foldB (y : S4x2x2x4096x4352.Idx → EReal) :
    Host.reduce (FloatOps.maximumf (F := Ideal) (φ := .f32)) y (val_main_cst_4 (F := Ideal)) Gen.reducesTo_S4x2x2x4096x4352_S4x2x2x4096_d4 Gen.h_S_ (ix4 b u g n)
      = Finset.univ.fold max (val_main_cst_4 (F := Ideal) (Shape.Idx.first Gen.h_S_)) fun k : Fin 4352 => y (ix5 b u g n k) := by
  pointwise

/-- What the reference subtracts from a row is the row's least upper bound. -/
theorem maxB (C : EReal) : val_main_v34 x6 x7 x8 (ix4 b u g n) ≤ C
    ↔ ∀ k : Fin 4352, val_main_v31 x6 x7 x8 (ix5 b u g n k) ≤ C := by
  rw [val_main_v34_apply, val_main_v33_apply]
  unfold val_main_v32
  generalize val_main_v31 x6 x7 x8 = y
  rw [foldB]
  show max (Ideal.ofBits .f32 4286578688#32) (Finset.univ.fold max (Ideal.ofBits .f32 4286578688#32) fun k : Fin 4352 => y (ix5 b u g n k)) ≤ C ↔ _
  rw [bot_bits, max_le_iff, Finset.fold_max_le]
  simp

/-- The reference's softmax-weighted sum of values, heads side by side. -/
theorem sumB (L : Fin 256) (e : Fin 64) (hL : L.val = 128 * u + 64 * g + e) : val_main_v45 x6 x7 x8 x9 x10 (ix3 b n L)
    = ∑ k : Fin 4352, Ideal.div (Ideal.exp (val_main_v31 x6 x7 x8 (ix5 b u g n k) - val_main_v34 x6 x7 x8 (ix4 b u g n)))
        (∑ k' : Fin 4352, Ideal.exp (val_main_v31 x6 x7 x8 (ix5 b u g n k') - val_main_v34 x6 x7 x8 (ix4 b u g n)))
      * val_main_v26 x9 x10 (ix4 b k u e) := by
  unfold val_main_v45 val_main_v44 val_main_v43 val_main_v42 val_main_v41 val_main_v40 val_main_v39 val_main_v38 val_main_v37 val_main_v36 val_main_v35 val_main_cst_6
  generalize val_main_v31 x6 x7 x8 = y
  generalize val_main_v34 x6 x7 x8 = z
  generalize val_main_v26 x9 x10 = w
  have b1 : L.val / 128 < 2 := by omega
  have b2 : L.val / 64 % 2 < 2 := by omega
  have b3 : L.val % 64 < 64 := by omega
  obtain rfl : u = ⟨L.val / 128, b1⟩ := Fin.ext (by dsimp only; omega)
  obtain rfl : g = ⟨L.val / 64 % 2, b2⟩ := Fin.ext (by dsimp only; omega)
  obtain rfl : e = ⟨L.val % 64, b3⟩ := Fin.ext (by dsimp only; omega)
  pointwise
  refine Finset.sum_congr rfl fun k _ => ?_
  exact mul_comm _ _

/-- The reference's gate. -/
theorem gateB (L : Fin 256) : val_main_v46 x11 (ix3 b n L) = x11 (ix3 b n L) * Ideal.div 1 (1 + Ideal.exp (-(x11 (ix3 b n L)))) := by
  unfold val_main_v46 val_main_call1_v5 val_main_call1_v4 val_main_call1_v3 val_main_call1_v2 val_main_call1_v1 val_main_call1_v0 val_main_call1_cst val_main_call1_cst_0
  pointwise

end PartB

/-- The reference's result: the multi-head attention's lanes, gated, then the grouped attention's. -/
theorem result (x0 : (⟨S4x4096x4x96, .f32⟩ : BufTy).Contents (Elt Ideal)) (x1 : (⟨S4x256x4x96, .f32⟩ : BufTy).Contents (Elt Ideal)) (x2 : (⟨S4x4096x4x96, .f32⟩ : BufTy).Contents (Elt Ideal)) (x3 : (⟨S4x256x4x64, .f32⟩ : BufTy).Contents (Elt Ideal)) (x4 : (⟨S4x4096x4x64, .f32⟩ : BufTy).Contents (Elt Ideal)) (x5 : (⟨S4x4096x256, .f32⟩ : BufTy).Contents (Elt Ideal)) (x6 : (⟨S4x4096x4x64, .f32⟩ : BufTy).Contents (Elt Ideal)) (x7 : (⟨S4x256x2x64, .f32⟩ : BufTy).Contents (Elt Ideal)) (x8 : (⟨S4x4096x2x64, .f32⟩ : BufTy).Contents (Elt Ideal)) (x9 : (⟨S4x256x2x64, .f32⟩ : BufTy).Contents (Elt Ideal)) (x10 : (⟨S4x4096x2x64, .f32⟩ : BufTy).Contents (Elt Ideal)) (x11 : (⟨S4x4096x256, .f32⟩ : BufTy).Contents (Elt Ideal))
    (b : Fin 4) (n : Fin 4096) (L : Fin 512) : val_main_v49 x0 x1 x2 x3 x4 x5 x6 x7 x8 x9 x10 x11 (ix3 b n L)
      = if hL : L.val < 256 then val_main_v21 x0 x1 x2 x3 x4 (ix3 b n ⟨L, hL⟩) * val_main_v22 x5 (ix3 b n ⟨L, hL⟩)
        else val_main_v45 x6 x7 x8 x9 x10 (ix3 b n ⟨L - 256, by omega⟩) * val_main_v46 x11 (ix3 b n ⟨L - 256, by omega⟩) := by
  unfold val_main_v49 val_main_v48 val_main_v23 val_main_v47
  generalize val_main_v21 x0 x1 x2 x3 x4 = y
  generalize val_main_v22 x5 = z
  generalize val_main_v45 x6 x7 x8 x9 x10 = u
  generalize val_main_v46 x11 = w
  pointwise

end Cert.Ref

end
-- ==== Proof.Tie.lean ====
/- The kernel's result against the reference's, lane by lane, when the queries and the keys are real numbers. -/
module

public import proofs.«01_k».proof.Proof.Run
public import proofs.«01_k».proof.Proof.Ref
public import proofs.«01_k».proof.Proof.Softmax

@[expose] public section

set_option maxRecDepth 16384

noncomputable section

namespace Cert.Tie

open Cert.KernelIdeal Cert.Prefix Cert.Run Cert.Soft Idealize.ShloMosaic Idealize.ShloMosaic.TcCoe Idealize.SL.Sem

/-! ## The numbers -/

/-- The word of ninety-six. -/
theorem bits96 : Ideal.ofBits .f32 1119879168#32 = ((96 : ℝ) : EReal) := by
  simp [Ideal.ofBits, Ideal.ieee, -EReal.coe_mul]; norm_num

/-- The word of sixty-four. -/
theorem bits64 : Ideal.ofBits .f32 1115684864#32 = ((64 : ℝ) : EReal) := by
  simp [Ideal.ofBits, Ideal.ieee, -EReal.coe_mul]; norm_num

/-- The word of two. -/
theorem bits2 : Ideal.ofBits .f32 1073741824#32 = ((2 : ℝ) : EReal) := by
  simp [Ideal.ofBits, Ideal.ieee, -EReal.coe_mul]; norm_num

/-- The reference's divisor is a positive real. -/
theorem root_eq (w : BitVec 32) (D : ℝ) (hD : 0 < D) (hw : Ideal.ofBits .f32 w = (D : EReal)) :
    Ideal.sqrt (Ideal.ofBits .f32 w) = ((Real.sqrt D : ℝ) : EReal) := by
  rw [hw, Ideal.sqrt_coe, if_neg (not_lt.mpr hD.le)]

/-- The query scale of a head of `D` lanes. -/
theorem scale_eq (w : BitVec 32) (D : ℝ) (hD : 0 < D) (hw : Ideal.ofBits .f32 w = (D : EReal)) :
    scale w = ((1 / (Real.sqrt D * Real.log 2) : ℝ) : EReal) := by
  have h2 : Real.log 2 ≠ 0 := (Real.log_pos (by norm_num)).ne'
  unfold scale
  rw [root_eq w D hD hw, bits2, Ideal.log_coe, if_neg (by norm_num), ← EReal.coe_mul,
    Ideal.div_coe (mul_ne_zero (Real.sqrt_pos.mpr hD).ne' h2), one_mul]

/-- A score of scaled real queries against real keys. -/
theorem rowL {ι : Type} [Fintype ι] (q k : ι → ℝ) (s : ℝ) :
    ∑ d, ((q d : EReal) * (s : EReal)) * (k d : EReal) = (((∑ d, q d * k d) * s : ℝ) : EReal) := by
  simp only [← EReal.coe_mul]
  rw [sum_coe, Finset.sum_mul]
  congr 1
  exact Finset.sum_congr rfl fun d _ => by ring

/-- A score of real keys against real queries, divided by a nonzero real. -/
theorem rowX {ι : Type} [Fintype ι] (q k : ι → ℝ) (a : ℝ) (ha : a ≠ 0) :
    Ideal.div (∑ d, (k d : EReal) * (q d : EReal)) (a : EReal) = (((∑ d, q d * k d) * (1 / a) : ℝ) : EReal) := by
  simp only [← EReal.coe_mul]
  rw [sum_coe, Ideal.div_coe ha, ← EReal.coe_mul]
  congr 2
  exact Finset.sum_congr rfl fun d _ => by ring

/-- A sum over 128 lanes of which the last 32 are zero. -/
theorem sum_pad (g : Fin 96 → EReal) : (∑ d : Fin 128, if hd : d.val < 96 then g ⟨d, hd⟩ else 0) = ∑ d, g d := by
  refine (Fin.sum_univ_add (a := 96) (b := 32) fun d => if hd : d.val < 96 then g ⟨d, hd⟩ else 0).trans ?_
  have h1 : ∀ i : Fin 32, (if hd : (Fin.natAdd 96 i).val < 96 then g ⟨_, hd⟩ else 0) = (0 : EReal) := fun i => by
    rw [dif_neg (by simp)]
  simp only [h1, Finset.sum_const_zero, add_zero]
  exact Finset.sum_congr rfl fun i _ => dif_pos i.isLt

/-- A sum over 128 lanes of which one half is zero. -/
theorem sum_half (p : ℕ) (hp : p < 2) (g : Fin 64 → EReal) :
    (∑ d : Fin 128, if p = d.val / 64 then g ⟨d.val % 64, by omega⟩ else 0) = ∑ d, g d := by
  refine (Fin.sum_univ_add (a := 64) (b := 64) fun d => if p = d.val / 64 then g ⟨d.val % 64, by omega⟩ else 0).trans ?_
  have el : ∀ i : Fin 64, (Fin.castAdd 64 i).val / 64 = 0 := fun i => by simp
  have er : ∀ i : Fin 64, (Fin.natAdd 64 i).val / 64 = 1 := fun i => by simp
  have ml : ∀ i : Fin 64, (⟨(Fin.castAdd 64 i).val % 64, by omega⟩ : Fin 64) = i := fun i => Fin.ext (by simp)
  have mr : ∀ i : Fin 64, (⟨(Fin.natAdd 64 i).val % 64, by omega⟩ : Fin 64) = i := fun i => Fin.ext (by simp)
  simp only [el, er, ml, mr]
  rcases (by omega : p = 0 ∨ p = 1) with rfl | rfl <;> simp

/-! ## The two kinds of heads -/

variable (m : (ℓ : Loc nD τ sig) → Buf (Elt Ideal) ℓ) (c : Dev nD)

/-- A token's key (or value) is real where the context's and the latents' are. -/
theorem tok_real {H D : ℕ} {ctx : (⟨4, ![4, 256, H, D]⟩ : Shape).Idx → EReal} {lat : (⟨4, ![4, 4096, H, D]⟩ : Shape).Idx → EReal}
    (hc : ∀ i, ∃ r : ℝ, ctx i = r) (hl : ∀ i, ∃ r : ℝ, lat i = r) (b : Fin 4) (t : Fin 4352) (h : Fin H) (d : Fin D) :
    ∃ r : ℝ, tok ctx lat b t h d = r := by
  unfold tok; split
  · exact hl _
  · exact hc _

/-- The reference's list of tokens is the kernel's under `swap`. -/
theorem tok_swap {H D : ℕ} (ctx : (⟨4, ![4, 256, H, D]⟩ : Shape).Idx → EReal) (lat : (⟨4, ![4, 4096, H, D]⟩ : Shape).Idx → EReal)
    (b : Fin 4) (t : Fin 4352) (h : Fin H) (d : Fin D) :
    (if hk : (swap t).val < 256 then ctx (ix4 b ⟨swap t, hk⟩ h d) else lat (ix4 b ⟨swap t - 256, by omega⟩ h d)) = tok ctx lat b t h d := by
  unfold tok
  by_cases ht : t.val < 4096
  · have e : (swap t).val = t.val + 256 := by simp [swap, ht]
    rw [dif_neg (by omega), dif_pos ht]
    exact congrArg (fun x => lat (ix4 b x h d)) (Fin.ext (by dsimp only; omega))
  · have e : (swap t).val = t.val - 4096 := by simp [swap, ht]
    rw [dif_pos (by omega), dif_neg ht]
    exact congrArg (fun x => ctx (ix4 b x h d)) (Fin.ext (by dsimp only; omega))

variable (b : Fin 4) (n : Fin 4096)

/-- A multi-head score: the 96 lanes in use. -/
theorem logitA (h : Fin 4) (t : Fin 4352) : logit m c b n ⟨h, by omega⟩ t
    = ∑ d : Fin 96, (qA m c (ix4 b n h d) * scale 1119879168#32) * tok (kAc m c) (kAl m c) b t h d := by
  unfold logit
  rw [← sum_pad]
  refine Finset.sum_congr rfl fun d _ => ?_
  unfold qs ks
  rw [qA_at m c b n h d _ rfl, kA_at m c b t h d _ rfl]
  split
  · rfl
  · exact mul_zero _

/-- A grouped score: the half of the lanes the head owns. -/
theorem logitB (h : Fin 4) (t : Fin 4352) : logit m c b n ⟨4 + h, by omega⟩ t
    = ∑ d : Fin 64, (qB m c (ix4 b n h d) * scale 1115684864#32) * tok (kBc m c) (kBl m c) b t ⟨h / 2, by omega⟩ d := by
  unfold logit
  rw [← sum_half (h.val % 2) (by omega)]
  refine Finset.sum_congr rfl fun d _ => ?_
  unfold qs ks
  rw [qB_at m c b n h d _ rfl, kB_at m c b t h d _ rfl]
  split
  · rfl
  · exact zero_mul _

/-- A multi-head row: the kernel's quotient is the reference's weighted sum. -/
theorem rowA (hq : ∀ i, ∃ r : ℝ, qA m c i = r) (hkc : ∀ i, ∃ r : ℝ, kAc m c i = r) (hkl : ∀ i, ∃ r : ℝ, kAl m c i = r)
    (h : Fin 4) (e : Fin 64) (L : Fin 256) (hL : L.val = 64 * h + e) :
    Ideal.div (∑ t, Ideal.exp2 (logit m c b n ⟨h, by omega⟩ t - ⨆ t, logit m c b n ⟨h, by omega⟩ t) * val m c b t ⟨h, by omega⟩ e)
        (∑ t, Ideal.exp2 (logit m c b n ⟨h, by omega⟩ t - ⨆ t, logit m c b n ⟨h, by omega⟩ t) * 1)
      = ReferenceIdeal.Read.val_main_v21 (F := Ideal) (qA m c) (kAc m c) (kAl m c) (vAc m c) (vAl m c) (ix3 b n L) := by
  rw [Ref.sumA _ _ _ _ _ b n h L e hL]
  choose q hq using fun d => hq (ix4 b n h d)
  choose k hk using fun t d => tok_real hkc hkl b t h d
  refine attention (fun t => ∑ d, q d * k t d) (Real.sqrt 96) (by positivity) swap _ _ _ _ _ _ (fun t => ?_) (fun t => ?_)
    (fun C => iSup_le_iff) (fun C => Ref.maxA _ _ _ b n h C) (fun t => ?_)
  · rw [logitA]
    simp only [hq, hk, scale_eq _ 96 (by norm_num) bits96]
    exact rowL _ _ _
  · rw [Ref.scoreA, root_eq _ 96 (by norm_num) bits96]
    simp only [Ref.keyA, tok_swap, hq, hk]
    exact rowX _ _ _ (by positivity)
  · rw [Ref.valueA, tok_swap]
    unfold val
    rw [dif_pos h.isLt]

/-- A grouped row. -/
theorem rowB (hq : ∀ i, ∃ r : ℝ, qB m c i = r) (hkc : ∀ i, ∃ r : ℝ, kBc m c i = r) (hkl : ∀ i, ∃ r : ℝ, kBl m c i = r)
    (h : Fin 4) (e : Fin 64) (L : Fin 256) (hL : L.val = 64 * h + e) :
    Ideal.div (∑ t, Ideal.exp2 (logit m c b n ⟨4 + h, by omega⟩ t - ⨆ t, logit m c b n ⟨4 + h, by omega⟩ t) * val m c b t ⟨4 + h, by omega⟩ e)
        (∑ t, Ideal.exp2 (logit m c b n ⟨4 + h, by omega⟩ t - ⨆ t, logit m c b n ⟨4 + h, by omega⟩ t) * 1)
      = ReferenceIdeal.Read.val_main_v45 (F := Ideal) (qB m c) (kBc m c) (kBl m c) (vBc m c) (vBl m c) (ix3 b n L) := by
  have b1 : h.val / 2 < 2 := by omega
  have b2 : h.val % 2 < 2 := by omega
  rw [Ref.sumB _ _ _ _ _ b n ⟨h / 2, b1⟩ ⟨h % 2, b2⟩ L e (by dsimp only; omega)]
  have eh : (⟨(⟨h / 2, b1⟩ : Fin 2).val * 2 + (⟨h % 2, b2⟩ : Fin 2).val, by dsimp only; omega⟩ : Fin 4) = h := Fin.ext (by dsimp only; omega)
  choose q hq using fun d => hq (ix4 b n h d)
  choose k hk using fun t d => tok_real hkc hkl b t ⟨h / 2, b1⟩ d
  refine attention (fun t => ∑ d, q d * k t d) (Real.sqrt 64) (by positivity) swap _ _ _ _ _ _ (fun t => ?_) (fun t => ?_)
    (fun C => iSup_le_iff) (fun C => Ref.maxB _ _ _ b n _ _ C) (fun t => ?_)
  · rw [logitB]
    simp only [hq, hk, scale_eq _ 64 (by norm_num) bits64]
    exact rowL _ _ _
  · rw [Ref.scoreB, root_eq _ 64 (by norm_num) bits64]
    simp only [eh, Ref.keyB, tok_swap, hq, hk]
    exact rowX _ _ _ (by positivity)
  · rw [Ref.valueB, tok_swap]
    unfold val
    rw [dif_neg (by dsimp only; omega)]
    exact congrArg (fun x => tok (vBc m c) (vBl m c) b t x e) (Fin.ext (by dsimp only; omega))

/-- Lane `L` of the kernel's result is lane `L` of the reference's. -/
theorem lane (hqA : ∀ i, ∃ r : ℝ, qA m c i = r) (hkAc : ∀ i, ∃ r : ℝ, kAc m c i = r) (hkAl : ∀ i, ∃ r : ℝ, kAl m c i = r)
    (hqB : ∀ i, ∃ r : ℝ, qB m c i = r) (hkBc : ∀ i, ∃ r : ℝ, kBc m c i = r) (hkBl : ∀ i, ∃ r : ℝ, kBl m c i = r) (L : Fin 512) :
    out m c b n ⟨L / 64, by omega⟩ ⟨L % 64, by omega⟩
      = ReferenceIdeal.Read.val_main_v49 (F := Ideal) (qA m c) (kAc m c) (kAl m c) (vAc m c) (vAl m c) (gA m c)
          (qB m c) (kBc m c) (kBl m c) (vBc m c) (vBl m c) (gB m c) (ix3 b n L) := by
  rw [Ref.result]
  unfold out
  have eL : (⟨64 * (⟨L / 64, by omega⟩ : Fin 8) + (⟨L % 64, by omega⟩ : Fin 64), by dsimp only; omega⟩ : Fin 512) = L :=
    Fin.ext (by dsimp only; omega)
  rw [eL]
  by_cases hL : L.val < 256
  · rw [dif_pos hL, ← rowA m c b n hqA hkAc hkAl ⟨L / 64, by omega⟩ ⟨L % 64, by omega⟩ ⟨L, hL⟩ (by dsimp only; omega), Ref.gateA]
    unfold gate
    rw [dif_pos hL]
  · have eh : (⟨L / 64, by omega⟩ : Fin 8) = ⟨4 + (⟨L / 64 - 4, by omega⟩ : Fin 4), by dsimp only; omega⟩ := Fin.ext (by dsimp only; omega)
    rw [dif_neg hL, ← rowB m c b n hqB hkBc hkBl ⟨L / 64 - 4, by omega⟩ ⟨L % 64, by omega⟩ ⟨L - 256, by omega⟩ (by dsimp only; omega), Ref.gateB, eh]
    unfold gate
    rw [dif_neg hL]

end Cert.Tie

end
-- ==== Proof.OutBody.lean ====
/- The output projection's kernel body, read at an index: four batches' rows side by side, each the mixers' outputs
   against the projection's rows, gated, added to the residual stream and normalised. -/
module

public import proofs.«01_k».proof.Proof.Gen.Kernel2Ideal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.OutBody

open Cert.Kernel2Ideal Cert.Kernel2Ideal.Gen Idealize.ShloMosaic Idealize.ShloMosaic.TcCoe Idealize.SL.Sem

/-- A row normalised by its root mean square: the sum of squares times `c`, plus the small constant, then the weights. -/
def rms {n : ℕ} (c : EReal) (a w : Fin n → EReal) (k : Fin n) : EReal :=
  a k * Ideal.rsqrt ((∑ j, a j * a j) * c + Ideal.ofBits .f32 0x358637BD#32) * w k

/-- The reciprocal of 256, as the body prints it. -/
def c256 : EReal := Ideal.ofBits .f32 0x3B800000#32
/-- The reciprocal of 1024, as the body prints it. -/
def c1024 : EReal := Ideal.ofBits .f32 0x3A800000#32

/-! ## The state-space mixer's rows -/

section Mix
variable (a b g : Vec Ideal S1x256x256 .bf16) (p : Vec Ideal S1x1x256 .f32) (r k : Fin 256)

/-- The two scan directions added and gated, then normalised. -/
def mix : EReal := rms c256 (fun k => (a (ix3 0 r k) + b (ix3 0 r k)) * g (ix3 0 r k)) (fun k => p (ix3 0 0 k)) k

theorem pay4_at : k0_pay4 (F := Ideal) a b g p (ix2 r k) = mix a b g p r k := by
  pointwise [k0_pay4, mix, rms, c256]
theorem pay7_at : k0_pay7 (F := Ideal) a b g p (ix2 r k) = mix a b g p r k := by
  pointwise [k0_pay7, mix, rms, c256]
theorem pay10_at : k0_pay10 (F := Ideal) a (ix2 r k) = a (ix3 0 r k) := by
  pointwise [k0_pay10]
theorem pay11_at : k0_pay11 (F := Ideal) (k0_pay10 a) b g p (ix2 r k) = mix a b g p r k := by
  pointwise [k0_pay11, pay10_at, mix, rms, c256]
theorem pay14_at : k0_pay14 (F := Ideal) a b (ix2 r k) = a (ix3 0 r k) + b (ix3 0 r k) := by
  pointwise [k0_pay14]
end Mix

/-! ## The projection -/

section Proj
variable (o0 o1 o2 o3 : FVec Ideal S256x512 .bf16) (c0 c1 c2 c3 d0 d1 d2 : FVec Ideal S256x256 .bf16)
  (a b g : Vec Ideal S1x256x256 .bf16) (p : Vec Ideal S1x1x256 .f32)
  (w0 : Vec Ideal S1x512x1024 .bf16) (w1 w2 : Vec Ideal S1x256x1024 .bf16) (r : Fin 256) (j : Fin 1024)

/-- One row against the projection: its first 512 lanes, the next 256 and the last 256. -/
def dot3 (u : Fin 512 → EReal) (v d : Fin 256 → EReal) : EReal :=
  (∑ k, u k * w0 (ix3 0 k j)) + (∑ k, v k * w1 (ix3 0 k j)) + ∑ k, d k * w2 (ix3 0 k j)

theorem pay15_at0 : k0_pay15 (F := Ideal) o0 c0 d0 o1 c1 d1 o2 c2 d2 o3 c3 (k0_pay14 a b) g p w0 w1 w2 (ix2 ⟨r, by omega⟩ j)
    = dot3 w0 w1 w2 j (fun k => o0 (ix2 r k)) (fun k => c0 (ix2 r k)) (fun k => d0 (ix2 r k)) := by
  pointwise [k0_pay15, dot3]
theorem pay15_at1 : k0_pay15 (F := Ideal) o0 c0 d0 o1 c1 d1 o2 c2 d2 o3 c3 (k0_pay14 a b) g p w0 w1 w2 (ix2 ⟨256 + r, by omega⟩ j)
    = dot3 w0 w1 w2 j (fun k => o1 (ix2 r k)) (fun k => c1 (ix2 r k)) (fun k => d1 (ix2 r k)) := by
  pointwise [k0_pay15, dot3]
theorem pay15_at2 : k0_pay15 (F := Ideal) o0 c0 d0 o1 c1 d1 o2 c2 d2 o3 c3 (k0_pay14 a b) g p w0 w1 w2 (ix2 ⟨512 + r, by omega⟩ j)
    = dot3 w0 w1 w2 j (fun k => o2 (ix2 r k)) (fun k => c2 (ix2 r k)) (fun k => d2 (ix2 r k)) := by
  have e : 512 + r.val - 256 - 256 = r.val := by omega
  have h0 : ¬ 512 + r.val < 256 := by omega
  have h1 : ¬ 512 + r.val - 256 < 256 := by omega
  have h2 : 512 + r.val - 256 - 256 < 256 := by omega
  pointwise [k0_pay15, dot3, h0, h1, h2, e]
theorem pay15_at3 : k0_pay15 (F := Ideal) o0 c0 d0 o1 c1 d1 o2 c2 d2 o3 c3 (k0_pay14 a b) g p w0 w1 w2 (ix2 ⟨768 + r, by omega⟩ j)
    = dot3 w0 w1 w2 j (fun k => o3 (ix2 r k)) (fun k => c3 (ix2 r k)) (fun k => mix a b g p r k) := by
  have e : 768 + r.val - 256 - 256 - 256 = r.val := by omega
  have h0 : ¬ 768 + r.val < 256 := by omega
  have h1 : ¬ 768 + r.val - 256 < 256 := by omega
  have h2 : ¬ 768 + r.val - 256 - 256 < 256 := by omega
  pointwise [k0_pay15, dot3, pay14_at, mix, rms, c256, h0, h1, h2, e]
end Proj

/-! ## The residual stream and its norm -/

section Res
variable (acc : FVec Ideal S1024x1024 .f32) (x : Vec Ideal S1x256x1024 .f32) (g : Vec Ideal S1x1x1x1024 .f32) (w : Vec Ideal S1x1024 .f32)
  (r : Fin 256) (j : Fin 1024)

/-- A row of the residual stream plus the gated row `y`, normalised. -/
def res (y : Fin 1024 → EReal) : EReal :=
  rms c1024 (fun j => x (ix3 0 r j) + g (ix4 0 0 0 j) * y j) (fun j => w (ix2 0 j)) j

theorem pay17_at : k0_pay17 (F := Ideal) acc (k0_pay16 x) g w (ix3 0 r j) = res x g w r j fun j => acc (ix2 ⟨r, by omega⟩ j) := by
  pointwise [k0_pay17, k0_pay16, res, rms, c1024]
theorem pay20_at : k0_pay20 (F := Ideal) (k0_pay18 acc x g) (k0_pay19 acc x g) w (ix3 0 r j)
    = res x g w r j fun j => acc (ix2 ⟨256 + r, by omega⟩ j) := by
  pointwise [k0_pay20, k0_pay19, k0_pay18, res, rms, c1024]
theorem pay21_at : k0_pay21 (F := Ideal) acc x g w (ix3 0 r j) = res x g w r j fun j => acc (ix2 ⟨512 + r, by omega⟩ j) := by
  pointwise [k0_pay21, res, rms, c1024]
theorem pay1_at : k0_pay1 (F := Ideal) acc (k0_pay22 x) g w (ix3 0 r j) = res x g w r j fun j => acc (ix2 ⟨768 + r, by omega⟩ j) := by
  pointwise [k0_pay1, k0_pay22, res, rms, c1024]
end Res

/-! ## The body's block -/

section Block
variable (x0 : Vec Ideal S4x256x512 .bf16) (x1 x2 x3 x4 : Vec Ideal S4x256x256 .bf16) (x5 : Vec Ideal S4x256x1024 .f32)
  (x6 : Vec Ideal S1x4x3x1024 .f32) (x7 : Vec Ideal S1x8x256 .f32) (x8 : Vec Ideal S1x1024x1024 .bf16) (x9 : Vec Ideal S1x1024 .f32)
  (b : Fin 4) (r : Fin 256)

/-- The state-space mixer's row of a batch. -/
def mixB (k : Fin 256) : EReal :=
  rms c256 (fun k => (x2 (ix3 b r k) + x3 (ix3 b r k)) * x4 (ix3 b r k)) (fun k => x7 (ix3 0 1 k)) k

/-- The projected row of a batch. -/
def projB (j : Fin 1024) : EReal :=
  (∑ k : Fin 512, x0 (ix3 b r k) * x8 (ix3 0 ⟨k, by omega⟩ j))
    + (∑ k : Fin 256, x1 (ix3 b r k) * x8 (ix3 0 ⟨512 + k, by omega⟩ j))
    + ∑ k : Fin 256, mixB x2 x3 x4 x7 b r k * x8 (ix3 0 ⟨768 + k, by omega⟩ j)

/-- The block's row of a batch. -/
def resB (j : Fin 1024) : EReal :=
  rms c1024 (fun j => x5 (ix3 b r j) + x6 (ix4 0 b 2 j) * projB x0 x1 x2 x3 x4 x7 x8 b r j) (fun j => x9 (ix2 0 j)) j

/-- The accumulated product at a batch's row. -/
theorem acc_at (j : Fin 1024) : k0_pay23 (F := Ideal) x0 x1 x2 x3 x4 x5 x6 x7 x8 x9 (ix2 ⟨256 * b + r, by omega⟩ j)
    = projB x0 x1 x2 x3 x4 x7 x8 b r j := by
  unfold k0_pay23
  obtain ⟨b, hb⟩ := b
  rcases (by omega : b = 0 ∨ b = 1 ∨ b = 2 ∨ b = 3) with rfl | rfl | rfl | rfl
  · have e : (⟨256 * (⟨0, hb⟩ : Fin 4) + r, by dsimp only; omega⟩ : Fin 1024) = ⟨r, by omega⟩ := Fin.ext (by dsimp only; omega)
    rw [e, pay15_at0]
    simp only [pay4_at]
    pointwise [dot3, projB, mixB, mix, rms, k0_pay2, k0_pay3]
  · rw [show (⟨256 * (⟨1, hb⟩ : Fin 4) + r, by dsimp only; omega⟩ : Fin 1024) = ⟨256 + r, by omega⟩ from Fin.ext (by dsimp only), pay15_at1]
    simp only [pay7_at]
    pointwise [dot3, projB, mixB, mix, rms, k0_pay5, k0_pay6]
  · rw [show (⟨256 * (⟨2, hb⟩ : Fin 4) + r, by dsimp only; omega⟩ : Fin 1024) = ⟨512 + r, by omega⟩ from Fin.ext (by dsimp only), pay15_at2]
    simp only [pay11_at]
    pointwise [dot3, projB, mixB, mix, rms, k0_pay8, k0_pay9]
  · rw [show (⟨256 * (⟨3, hb⟩ : Fin 4) + r, by dsimp only; omega⟩ : Fin 1024) = ⟨768 + r, by omega⟩ from Fin.ext (by dsimp only), pay15_at3]
    pointwise [dot3, projB, mixB, mix, rms, k0_pay12, k0_pay13]

/-- An index of one batch's block by its row and lane. -/
theorem idx_eq (x : S1x256x1024.Idx) : ∃ (r : Fin 256) (j : Fin 1024), x = ix3 0 r j := by
  refine ⟨x (1 : Fin 3), x (2 : Fin 3), ?_⟩
  funext a; apply Fin.ext
  fin_cases a
  · exact Nat.lt_one_iff.mp (x (0 : Fin 3)).isLt
  · rfl
  · rfl

/-- What a point leaves, at a batch's row. -/
theorem out_at (j : Fin 1024) : out0_10 (F := Ideal) x0 x1 x2 x3 x4 x5 x6 x7 x8 x9 (ix3 b r j)
    = resB x0 x1 x2 x3 x4 x5 x6 x7 x8 x9 b r j := by
  unfold out0_10
  refine (View.canon_apply_of_pieces (fun y : S4x256x1024.Idx => resB x0 x1 x2 x3 x4 x5 x6 x7 x8 x9 (y (0 : Fin 3)) (y (1 : Fin 3)) (y (2 : Fin 3)))
    _ ?_ (ix3 b r j) (cover0_10 _ _ _ _ _)).trans rfl
  have a0 := acc_at x0 x1 x2 x3 x4 x5 x6 x7 x8 x9 0
  have a1 := acc_at x0 x1 x2 x3 x4 x5 x6 x7 x8 x9 1
  have a2 := acc_at x0 x1 x2 x3 x4 x5 x6 x7 x8 x9 2
  have a3 := acc_at x0 x1 x2 x3 x4 x5 x6 x7 x8 x9 3
  generalize k0_pay23 (F := Ideal) x0 x1 x2 x3 x4 x5 x6 x7 x8 x9 = acc at *
  intro p hp
  simp only [List.mem_cons, List.not_mem_nil, or_false] at hp
  rcases hp with rfl | rfl | rfl | rfl
  · intro x
    obtain ⟨r', j', rfl⟩ := idx_eq x
    have he : r0_19.emb (ix3 0 r' j') = (ix3 3 r' j' : S4x256x1024.Idx) := by blk_ext []
    have a : ∀ j, acc (ix2 ⟨768 + r', by omega⟩ j) = projB x0 x1 x2 x3 x4 x7 x8 3 r' j := a3 r'
    refine (pay1_at _ _ _ _ r' j').trans ?_
    dsimp only
    rw [he]
    simp only [a]
    pointwise [res, resB, rms]
  · intro x
    obtain ⟨r', j', rfl⟩ := idx_eq x
    have he : r0_17.emb (ix3 0 r' j') = (ix3 2 r' j' : S4x256x1024.Idx) := by blk_ext []
    have a : ∀ j, acc (ix2 ⟨512 + r', by omega⟩ j) = projB x0 x1 x2 x3 x4 x7 x8 2 r' j := a2 r'
    refine (pay21_at _ _ _ _ r' j').trans ?_
    dsimp only
    rw [he]
    simp only [a]
    pointwise [res, resB, rms]
  · intro x
    obtain ⟨r', j', rfl⟩ := idx_eq x
    have he : r0_15.emb (ix3 0 r' j') = (ix3 1 r' j' : S4x256x1024.Idx) := by blk_ext []
    have a : ∀ j, acc (ix2 ⟨256 + r', by omega⟩ j) = projB x0 x1 x2 x3 x4 x7 x8 1 r' j := a1 r'
    refine (pay20_at _ _ _ _ r' j').trans ?_
    dsimp only
    rw [he]
    simp only [a]
    pointwise [res, resB, rms]
  · intro x
    obtain ⟨r', j', rfl⟩ := idx_eq x
    have he : r0_12.emb (ix3 0 r' j') = (ix3 0 r' j' : S4x256x1024.Idx) := by blk_ext []
    have a : ∀ j, acc (ix2 ⟨r', by omega⟩ j) = projB x0 x1 x2 x3 x4 x7 x8 0 r' j := fun j => (congrArg (fun i => acc (ix2 i j)) (Fin.ext (by simp))).trans (a0 r' j)
    refine (pay17_at _ _ _ _ r' j').trans ?_
    dsimp only
    rw [he]
    simp only [a]
    pointwise [res, resB, rms]
end Block

end Cert.OutBody

end
-- ==== Proof.OutPrefix.lean ====
/- The host operations before the output projection: each window's array read at an index. -/
module

public import proofs.«01_k».proof.Proof.Gen.Kernel2Ideal.Frame
public import Idealize.ShloMosaic.Lib.Pointwise
public import Idealize.ShloMosaic.Lib.Pipeline.ValueKit

@[expose] public section

set_option maxRecDepth 16384

noncomputable section

namespace Cert.OutPrefix

open Cert.Kernel2Ideal Cert.Kernel2Ideal.Gen Idealize.ShloMosaic Idealize.ShloMosaic.TcCoe Idealize.SL.Sem

variable (m : (ℓ : Loc nD τ sig) → Buf (Elt Ideal) ℓ)

/-! ## The arguments, as arrays of extended reals -/

section Args
variable (c : Dev nD)
def ya : S4x4096x256.Idx → EReal := m ((c.tc : Thread nD τ).loc main_arg0)
def yb : S4x4096x256.Idx → EReal := m ((c.tc : Thread nD τ).loc main_arg1)
def yc : S4x4096x256.Idx → EReal := m ((c.tc : Thread nD τ).loc main_arg2)
def fwd : S4x4096x256.Idx → EReal := m ((c.tc : Thread nD τ).loc main_arg3)
def bwd : S4x4096x256.Idx → EReal := m ((c.tc : Thread nD τ).loc main_arg4)
def zs : S4x4096x256.Idx → EReal := m ((c.tc : Thread nD τ).loc main_arg5)
def xs : S4x4096x1024.Idx → EReal := m ((c.tc : Thread nD τ).loc main_arg6)
def mods : S4x3072.Idx → EReal := m ((c.tc : Thread nD τ).loc main_arg7)
def nw : S4x256.Idx → EReal := m ((c.tc : Thread nD τ).loc main_arg8)
def wo : S4x1024x1024.Idx → EReal := m ((c.tc : Thread nD τ).loc main_arg9)
def fw : S1024.Idx → EReal := m ((c.tc : Thread nD τ).loc main_arg10)
end Args

section At
variable (c : Dev nD) (b : Fin 4) (n : Fin 4096)

set_option maxHeartbeats 4000000 in
/-- The two attention mixers' outputs, side by side. -/
theorem ab_at (k : Fin 512) : V m c main_v1 (ix3 b n k)
    = (if hk : k.val < 256 then ya m c (ix3 b n ⟨k, hk⟩) else yb m c (ix3 b n ⟨k - 256, by omega⟩) : EReal) := by
  dsimp only [V, hostOps0]
  after_results
  pointwise [ya, yb]

set_option maxHeartbeats 4000000 in
/-- The third mixer's output at a latent row. -/
theorem c_at (k : Fin 256) : V m c main_v26 (ix3 b ⟨n, by omega⟩ k) = (yc m c (ix3 b n k) : EReal) := by
  dsimp only [V, hostOps0]
  after_results
  pointwise [yc]

set_option maxHeartbeats 4000000 in
/-- The forward scan at a latent row. -/
theorem f_at (k : Fin 256) : V m c main_v29 (ix3 b ⟨n, by omega⟩ k) = (fwd m c (ix3 b n k) : EReal) := by
  dsimp only [V, hostOps0]
  after_results
  pointwise [fwd]

set_option maxHeartbeats 4000000 in
/-- The backward scan at a latent row. -/
theorem b_at (k : Fin 256) : V m c main_v32 (ix3 b ⟨n, by omega⟩ k) = (bwd m c (ix3 b n k) : EReal) := by
  dsimp only [V, hostOps0]
  after_results
  pointwise [bwd]

set_option maxHeartbeats 4000000 in
/-- The state-space mixer's gate at a latent row. -/
theorem z_at (k : Fin 256) : V m c main_v13 (ix3 b ⟨n, by omega⟩ ⟨768 + k, by omega⟩)
    = (zs m c (ix3 b n k) * Ideal.div 1 (1 + Ideal.exp (-zs m c (ix3 b n k))) : EReal) := by
  dsimp only [V, hostOps0]
  after_results
  pointwise [zs]

set_option maxHeartbeats 4000000 in
/-- The residual stream at a latent row. -/
theorem x_at (j : Fin 1024) : V m c main_v34 (ix3 b ⟨n, by omega⟩ j) = (xs m c (ix3 b n j) : EReal) := by
  dsimp only [V, hostOps0]
  after_results
  pointwise [xs]

set_option maxHeartbeats 4000000 in
/-- The last layer's gate vector of a batch. -/
theorem m_at (j : Fin 1024) : V m c main_v19 (ix4 3 ⟨b, by omega⟩ 2 j) = (mods m c (ix2 b ⟨2048 + j, by omega⟩) : EReal) := by
  dsimp only [V, hostOps0]
  after_results
  pointwise [mods]

set_option maxHeartbeats 4000000 in
/-- The packed vectors are three stacks joined. -/
theorem p_eq : V m c main_v23 = concatenate S4x8x256 1 [⟨S4x1x256, V m c main_v20⟩, ⟨S4x1x256, V m c main_v21⟩, ⟨S4x6x256, V m c main_v22⟩]
    concatenates_S4x1x256_S4x1x256_S4x6x256_S4x8x256_d1 := by
  dsimp only [V, hostOps0]
  after_results
  rfl

set_option maxHeartbeats 4000000 in
/-- The second stack holds the norm weights. -/
theorem p1_at (k : Fin 256) : V m c main_v21 (ix3 3 0 k) = (nw m c (ix2 3 k) : EReal) := by
  dsimp only [V, hostOps0]
  after_results
  pointwise [nw]

/-- The last layer's norm weights. -/
theorem p_at (k : Fin 256) : V m c main_v23 (ix3 3 1 k) = (nw m c (ix2 3 k) : EReal) := by
  rw [p_eq, ← p1_at]
  generalize V m c main_v20 = x
  generalize V m c main_v21 = y
  generalize V m c main_v22 = z
  pointwise

set_option maxHeartbeats 4000000 in
/-- The projection's weights. -/
theorem w_at (k j : Fin 1024) : V m c main_v35 (ix3 3 k j) = (wo m c (ix3 3 k j) : EReal) := by
  dsimp only [V, hostOps0]
  after_results
  pointwise [wo]

set_option maxHeartbeats 4000000 in
/-- The final norm's weights. -/
theorem fw_at (j : Fin 1024) : V m c main_v36 (ix2 0 j) = (fw m c (ix1 j) : EReal) := by
  dsimp only [V, hostOps0]
  after_results
  pointwise [fw]

end At

end Cert.OutPrefix

end
-- ==== Proof.OutRun.lean ====
/- The output projection's result array after the run, element by element: block `i` holds rows `256 i + r` of every batch. -/
module

public import proofs.«01_k».proof.Proof.Gen.Kernel2Ideal.Value
public import proofs.«01_k».proof.Proof.OutBody
public import proofs.«01_k».proof.Proof.OutPrefix

@[expose] public section

set_option maxRecDepth 16384

noncomputable section

namespace Cert.OutRun

open Cert.Kernel2Ideal Cert.Kernel2Ideal.Gen Cert.OutPrefix Idealize.ShloMosaic Idealize.ShloMosaic.TcCoe Idealize.SL.Sem
open Cert.OutBody (rms c256 c1024)

variable (m : (ℓ : Loc nD τ sig) → Buf (Elt Ideal) ℓ) (c : Dev nD)

/-- The gated sum of the two scans. -/
def scan (b : Fin 4) (n : Fin 4096) (k : Fin 256) : EReal :=
  (fwd m c (ix3 b n k) + bwd m c (ix3 b n k)) * (zs m c (ix3 b n k) * Ideal.div 1 (1 + Ideal.exp (-zs m c (ix3 b n k))))

/-- A row of the four mixers' outputs against the projection. -/
def proj (b : Fin 4) (n : Fin 4096) (j : Fin 1024) : EReal :=
  (∑ k : Fin 512, (if hk : k.val < 256 then ya m c (ix3 b n ⟨k, hk⟩) else yb m c (ix3 b n ⟨k - 256, by omega⟩)) * wo m c (ix3 3 ⟨k, by omega⟩ j))
    + (∑ k : Fin 256, yc m c (ix3 b n k) * wo m c (ix3 3 ⟨512 + k, by omega⟩ j))
    + ∑ k : Fin 256, rms c256 (scan m c b n) (fun k => nw m c (ix2 3 k)) k * wo m c (ix3 3 ⟨768 + k, by omega⟩ j)

/-- What the kernel leaves at token `n`, lane `j`. -/
def out (b : Fin 4) (n : Fin 4096) (j : Fin 1024) : EReal :=
  rms c1024 (fun j => xs m c (ix3 b n j) + mods m c (ix2 b ⟨2048 + j, by omega⟩) * proj m c b n j) (fun j => fw m c (ix1 j)) j

/-- Every window's block index, in terms of the output's. -/
theorem index_facts : ∀ t : Fin cfg0.grid.N,
    (win0_10.index t 0 = 0 ∧ win0_10.index t 1 < 16 ∧ win0_10.index t 2 = 0)
    ∧ (win0_0.index t 0 = 0 ∧ win0_0.index t 1 = win0_10.index t 1 ∧ win0_0.index t 2 = 0)
    ∧ (win0_1.index t 0 = 0 ∧ win0_1.index t 1 = win0_10.index t 1 ∧ win0_1.index t 2 = 0)
    ∧ (win0_2.index t 0 = 0 ∧ win0_2.index t 1 = win0_10.index t 1 ∧ win0_2.index t 2 = 0)
    ∧ (win0_3.index t 0 = 0 ∧ win0_3.index t 1 = win0_10.index t 1 ∧ win0_3.index t 2 = 0)
    ∧ (win0_4.index t 0 = 0 ∧ win0_4.index t 1 = win0_10.index t 1 ∧ win0_4.index t 2 = 3)
    ∧ (win0_5.index t 0 = 0 ∧ win0_5.index t 1 = win0_10.index t 1 ∧ win0_5.index t 2 = 0)
    ∧ (win0_6.index t 0 = 3 ∧ win0_6.index t 1 = 0 ∧ win0_6.index t 2 = 0 ∧ win0_6.index t 3 = 0)
    ∧ (win0_7.index t 0 = 3 ∧ win0_7.index t 1 = 0 ∧ win0_7.index t 2 = 0)
    ∧ (win0_8.index t 0 = 3 ∧ win0_8.index t 1 = 0 ∧ win0_8.index t 2 = 0)
    ∧ (win0_9.index t 0 = 0 ∧ win0_9.index t 1 = 0) := by
  decide +kernel

section Block

variable (t : Fin cfg0.grid.N) (i : Fin 16) (h1 : win0_10.index t 1 = i) (b : Fin 4) (r : Fin 256)
include h1

/-- Where window 0's block lies in its array. -/
theorem ab_place (d : Fin 512) : ((cfg0.win 0).blk t).view.emb (ix3 b r d) = (ix3 b ⟨256 * i + r, by omega⟩ d : S4x4096x512.Idx) := by
  obtain ⟨-, ⟨e0, e1, e2⟩, -⟩ := index_facts t
  rw [h1] at e1
  blk_ext [e0, e1, e2]

/-- The attention mixers' block at a point. -/
theorem ab_block (d : Fin 512) : iblk m c 0 t (ix3 b r d) = (V m c main_v1 (ix3 b ⟨256 * i + r, by omega⟩ d) : EReal) := by
  unfold iblk
  generalize V m c (Pipeline.arrRef spec0 0) = x
  rw [View.read_apply]
  rw [ab_place t i h1 b r d]
  exact cast_eq rfl _

/-- Where window 1's block lies in its array. -/
theorem c_place (d : Fin 256) : ((cfg0.win 1).blk t).view.emb (ix3 b r d) = (ix3 b ⟨256 * i + r, by omega⟩ d : S4x4352x256.Idx) := by
  obtain ⟨-, -, ⟨e0, e1, e2⟩, -⟩ := index_facts t
  rw [h1] at e1
  blk_ext [e0, e1, e2]

/-- The third mixer's block at a point. -/
theorem c_block (d : Fin 256) : iblk m c 1 t (ix3 b r d) = (V m c main_v26 (ix3 b ⟨256 * i + r, by omega⟩ d) : EReal) := by
  unfold iblk
  generalize V m c (Pipeline.arrRef spec0 1) = x
  rw [View.read_apply]
  rw [c_place t i h1 b r d]
  exact cast_eq rfl _

/-- Where window 2's block lies in its array. -/
theorem f_place (d : Fin 256) : ((cfg0.win 2).blk t).view.emb (ix3 b r d) = (ix3 b ⟨256 * i + r, by omega⟩ d : S4x4352x256.Idx) := by
  obtain ⟨-, -, -, ⟨e0, e1, e2⟩, -⟩ := index_facts t
  rw [h1] at e1
  blk_ext [e0, e1, e2]

/-- The forward scan's block at a point. -/
theorem f_block (d : Fin 256) : iblk m c 2 t (ix3 b r d) = (V m c main_v29 (ix3 b ⟨256 * i + r, by omega⟩ d) : EReal) := by
  unfold iblk
  generalize V m c (Pipeline.arrRef spec0 2) = x
  rw [View.read_apply]
  rw [f_place t i h1 b r d]
  exact cast_eq rfl _

/-- Where window 3's block lies in its array. -/
theorem b_place (d : Fin 256) : ((cfg0.win 3).blk t).view.emb (ix3 b r d) = (ix3 b ⟨256 * i + r, by omega⟩ d : S4x4352x256.Idx) := by
  obtain ⟨-, -, -, -, ⟨e0, e1, e2⟩, -⟩ := index_facts t
  rw [h1] at e1
  blk_ext [e0, e1, e2]

/-- The backward scan's block at a point. -/
theorem b_block (d : Fin 256) : iblk m c 3 t (ix3 b r d) = (V m c main_v32 (ix3 b ⟨256 * i + r, by omega⟩ d) : EReal) := by
  unfold iblk
  generalize V m c (Pipeline.arrRef spec0 3) = x
  rw [View.read_apply]
  rw [b_place t i h1 b r d]
  exact cast_eq rfl _

/-- Where window 4's block lies in its array. -/
theorem z_place (d : Fin 256) : ((cfg0.win 4).blk t).view.emb (ix3 b r d) = (ix3 b ⟨256 * i + r, by omega⟩ ⟨768 + d, by omega⟩ : S4x4352x1024.Idx) := by
  obtain ⟨-, -, -, -, -, ⟨e0, e1, e2⟩, -⟩ := index_facts t
  rw [h1] at e1
  blk_ext [e0, e1, e2]

/-- The gates' block at a point. -/
theorem z_block (d : Fin 256) : iblk m c 4 t (ix3 b r d) = (V m c main_v13 (ix3 b ⟨256 * i + r, by omega⟩ ⟨768 + d, by omega⟩) : EReal) := by
  unfold iblk
  generalize V m c (Pipeline.arrRef spec0 4) = x
  rw [View.read_apply]
  rw [z_place t i h1 b r d]
  exact cast_eq rfl _

/-- Where window 5's block lies in its array. -/
theorem x_place (d : Fin 1024) : ((cfg0.win 5).blk t).view.emb (ix3 b r d) = (ix3 b ⟨256 * i + r, by omega⟩ d : S4x4352x1024.Idx) := by
  obtain ⟨-, -, -, -, -, -, ⟨e0, e1, e2⟩, -⟩ := index_facts t
  rw [h1] at e1
  blk_ext [e0, e1, e2]

/-- The residual stream's block at a point. -/
theorem x_block (d : Fin 1024) : iblk m c 5 t (ix3 b r d) = (V m c main_v34 (ix3 b ⟨256 * i + r, by omega⟩ d) : EReal) := by
  unfold iblk
  generalize V m c (Pipeline.arrRef spec0 5) = x
  rw [View.read_apply]
  rw [x_place t i h1 b r d]
  exact cast_eq rfl _

omit h1 in
/-- Where window 6's block lies in its array. -/
theorem m_place (d : Fin 1024) : ((cfg0.win 6).blk t).view.emb (ix4 0 b 2 d : S1x4x3x1024.Idx) = (ix4 3 ⟨b, b.isLt.trans (by decide)⟩ 2 d : S4x8x3x1024.Idx) := by
  obtain ⟨-, -, -, -, -, -, -, ⟨e0, e1, e2, e3⟩, -⟩ := index_facts t
  blk_ext [e0, e1, e2, e3]

omit h1 in
/-- The modulation vectors' block at a point. -/
theorem m_block (d : Fin 1024) : iblk m c 6 t (ix4 0 b 2 d : S1x4x3x1024.Idx) = (V m c main_v19 (ix4 3 ⟨b, b.isLt.trans (by decide)⟩ 2 d) : EReal) := by
  unfold iblk
  generalize V m c (Pipeline.arrRef spec0 6) = x
  rw [View.read_apply]
  rw [m_place t b d]
  exact cast_eq rfl _

omit h1 in
/-- Where window 7's block lies in its array. -/
theorem p_place (d : Fin 256) : ((cfg0.win 7).blk t).view.emb (ix3 0 1 d) = (ix3 3 1 d : S4x8x256.Idx) := by
  obtain ⟨-, -, -, -, -, -, -, -, ⟨e0, e1, e2⟩, -⟩ := index_facts t
  blk_ext [e0, e1, e2]

omit h1 in
/-- The packed vectors' block at a point. -/
theorem p_block (d : Fin 256) : iblk m c 7 t (ix3 0 1 d) = (V m c main_v23 (ix3 3 1 d) : EReal) := by
  unfold iblk
  generalize V m c (Pipeline.arrRef spec0 7) = x
  rw [View.read_apply]
  rw [p_place t d]
  exact cast_eq rfl _

omit h1 in
/-- Where window 8's block lies in its array. -/
theorem w_place (k d : Fin 1024) : ((cfg0.win 8).blk t).view.emb (ix3 0 k d) = (ix3 3 k d : S4x1024x1024.Idx) := by
  obtain ⟨-, -, -, -, -, -, -, -, -, ⟨e0, e1, e2⟩, -⟩ := index_facts t
  blk_ext [e0, e1, e2]

omit h1 in
/-- The weights' block at a point. -/
theorem w_block (k d : Fin 1024) : iblk m c 8 t (ix3 0 k d) = (V m c main_v35 (ix3 3 k d) : EReal) := by
  unfold iblk
  generalize V m c (Pipeline.arrRef spec0 8) = x
  rw [View.read_apply]
  rw [w_place t k d]
  exact cast_eq rfl _

omit h1 in
/-- Where window 9's block lies in its array. -/
theorem g_place (d : Fin 1024) : ((cfg0.win 9).blk t).view.emb (ix2 0 d) = (ix2 0 d : S1x1024.Idx) := by
  obtain ⟨-, -, -, -, -, -, -, -, -, -, e0, e1⟩ := index_facts t
  blk_ext [e0, e1]

omit h1 in
/-- The final norm's block at a point. -/
theorem g_block (d : Fin 1024) : iblk m c 9 t (ix2 0 d) = (V m c main_v36 (ix2 0 d) : EReal) := by
  unfold iblk
  generalize V m c (Pipeline.arrRef spec0 9) = x
  rw [View.read_apply]
  rw [g_place t d]
  exact cast_eq rfl _

/-- Where the output's block lies in its array. -/
theorem o_place (j : Fin 1024) (y : ((cfg0.win 10).xblock (cfg0.grid.coords t)).Idx)
    (y0 : (y (0 : Fin 3)).val = b) (y1 : (y (1 : Fin 3)).val = r) (y2 : (y (2 : Fin 3)).val = j) :
    ((cfg0.win 10).blk t).view.emb y = (ix3 b ⟨256 * i + r, by omega⟩ j : S4x4096x1024.Idx) := by
  obtain ⟨⟨e0, -, e2⟩, -⟩ := index_facts t
  blk_ext [e0, h1, e2]

/-- The state-space mixer's row of a point. -/
theorem mix_eq (k : Fin 256) :
    OutBody.mixB (iblk m c 2 t) (iblk m c 3 t) (iblk m c 4 t) (iblk m c 7 t) b r k
      = rms c256 (scan m c b ⟨256 * i + r, by omega⟩) (fun k => nw m c (ix2 3 k)) k := by
  unfold OutBody.mixB scan
  simp only [f_block m c t i h1, b_block m c t i h1, z_block m c t i h1, p_block m c t]
  simp only [f_at m c b ⟨256 * i + r, by omega⟩, b_at m c b ⟨256 * i + r, by omega⟩, z_at m c b ⟨256 * i + r, by omega⟩, p_at m c]

/-- The projected row of a point. -/
theorem proj_eq (j : Fin 1024) :
    OutBody.projB (iblk m c 0 t) (iblk m c 1 t) (iblk m c 2 t) (iblk m c 3 t) (iblk m c 4 t) (iblk m c 7 t) (iblk m c 8 t) b r j
      = proj m c b ⟨256 * i + r, by omega⟩ j := by
  unfold OutBody.projB proj
  simp only [mix_eq m c t i h1]
  simp only [ab_block m c t i h1, c_block m c t i h1, w_block m c t]
  simp only [ab_at m c b ⟨256 * i + r, by omega⟩, c_at m c b ⟨256 * i + r, by omega⟩, w_at m c]

/-- What a point leaves at a row of its block. -/
theorem point (j : Fin 1024) :
    out0_10 (iblk m c 0 t) (iblk m c 1 t) (iblk m c 2 t) (iblk m c 3 t) (iblk m c 4 t) (iblk m c 5 t) (iblk m c 6 t) (iblk m c 7 t) (iblk m c 8 t)
        (iblk m c 9 t) (ix3 b r j)
      = out m c b ⟨256 * i + r, by omega⟩ j := by
  refine (OutBody.out_at _ _ _ _ _ _ _ _ _ _ b r j).trans ?_
  unfold OutBody.resB out
  simp only [proj_eq m c t i h1]
  simp only [x_block m c t i h1, m_block m c t, g_block m c t]
  simp only [x_at m c b ⟨256 * i + r, by omega⟩, m_at m c, fw_at m c]

end Block

/-- The kernel's result, element by element. -/
theorem arr_eq : (dats m 0 c).arrAt 10 cfg0.N
    = fun i : S4x4096x1024.Idx => out m c (i (0 : Fin 3)) (i (1 : Fin 3)) (i (2 : Fin 3)) := by
  refine (dats m 0 c).arrAt_eq_of_covers 10 _ (by decide +kernel) fun t hf y => ?_
  obtain ⟨⟨e0, e1, e2⟩, -⟩ := index_facts t
  have b0 : (y (0 : Fin 3)).val < 4 := (y (0 : Fin 3)).isLt
  have b1 : (y (1 : Fin 3)).val < 256 := (y (1 : Fin 3)).isLt
  have b2 : (y (2 : Fin 3)).val < 1024 := (y (2 : Fin 3)).isLt
  have key := point m c t ⟨_, e1⟩ rfl ⟨_, b0⟩ ⟨_, b1⟩ ⟨_, b2⟩
  have hp := o_place t ⟨_, e1⟩ rfl ⟨_, b0⟩ ⟨_, b1⟩ ⟨_, b2⟩ y rfl rfl rfl
  have hy : y = (ix3 ⟨_, b0⟩ ⟨_, b1⟩ ⟨_, b2⟩ : (⟨3, ![4, 256, 1024]⟩ : Shape).Idx) := by
    funext a; fin_cases a <;> rfl
  rw [← hy] at key
  blk_simp
  rw [after0_10, hp]
  exact key

end Cert.OutRun

end
-- ==== Proof.OutRef.lean ====
/- The output projection's reference at an index. -/
module

public import proofs.«01_k».proof.Proof.Gen.Reference2Ideal.Read
public import proofs.«01_k».proof.Proof.OutBody
public import Idealize.ShloMosaic.Lib.Pointwise

@[expose] public section

set_option maxRecDepth 16384

noncomputable section

namespace Cert.OutRef

open Cert.Reference2Ideal Cert.Reference2Ideal.Read Idealize.ShloMosaic
open Cert.OutBody (rms c256 c1024)

/-! ## The means -/

/-- Dividing by 256 is multiplying by its reciprocal. -/
theorem div256 (x : EReal) : Ideal.div x (Ideal.ofBits .f32 0x43800000#32) = x * c256 := by
  have e1 : Ideal.ofBits .f32 0x43800000#32 = ((256 : ℝ) : EReal) := by
    simp [Ideal.ofBits, Ideal.ieee, -EReal.coe_mul]; norm_num
  have e2 : c256 = ((256 : ℝ)⁻¹ : ℝ) := by
    unfold c256; simp [Ideal.ofBits, Ideal.ieee, -EReal.coe_mul]; norm_num
  rw [e1, e2, Ideal.div, if_neg (by norm_num), EReal.coe_inv]

/-- Dividing by 1024 is multiplying by its reciprocal. -/
theorem div1024 (x : EReal) : Ideal.div x (Ideal.ofBits .f32 0x44800000#32) = x * c1024 := by
  have e1 : Ideal.ofBits .f32 0x44800000#32 = ((1024 : ℝ) : EReal) := by
    simp [Ideal.ofBits, Ideal.ieee, -EReal.coe_mul]; norm_num
  have e2 : c1024 = ((1024 : ℝ)⁻¹ : ℝ) := by
    unfold c1024; simp [Ideal.ofBits, Ideal.ieee, -EReal.coe_mul]; norm_num
  rw [e1, e2, Ideal.div, if_neg (by norm_num), EReal.coe_inv]

variable (x0 x1 x2 x3 x4 x5 : (⟨S4x4096x256, .f32⟩ : BufTy).Contents (Elt Ideal)) (x6 : (⟨S4x4096x1024, .f32⟩ : BufTy).Contents (Elt Ideal))
  (x7 : (⟨S4x3072, .f32⟩ : BufTy).Contents (Elt Ideal)) (x8 : (⟨S4x256, .f32⟩ : BufTy).Contents (Elt Ideal))
  (x9 : (⟨S4x1024x1024, .f32⟩ : BufTy).Contents (Elt Ideal)) (x10 : (⟨S1024, .f32⟩ : BufTy).Contents (Elt Ideal))
  (b : Fin 4) (n : Fin 4096)

/-- The scans' sum, gated. -/
theorem scan_at (k : Fin 256) : val_main_v5 x3 x4 x5 (ix3 b n k)
    = (x3 (ix3 b n k) + x4 (ix3 b n k)) * (x5 (ix3 b n k) * Ideal.div 1 (1 + Ideal.exp (-(x5 (ix3 b n k))))) := by
  unfold val_main_v5 val_main_v3 val_main_v4 val_main_call0_v5 val_main_call0_v4 val_main_call0_v3 val_main_call0_v2 val_main_call0_v1 val_main_call0_v0 val_main_call0_cst val_main_call0_cst_0
  pointwise

/-- The state-space mixer's output. -/
theorem mix_at (k : Fin 256) : val_main_v20 x3 x4 x5 x8 (ix3 b n k)
    = rms c256 (fun k => (x3 (ix3 b n k) + x4 (ix3 b n k)) * (x5 (ix3 b n k) * Ideal.div 1 (1 + Ideal.exp (-(x5 (ix3 b n k))))))
        (fun k => x8 (ix2 3 k)) k := by
  have hs := scan_at x3 x4 x5 b n
  unfold val_main_v20 val_main_v19 val_main_v18 val_main_v7 val_main_v6 val_main_v17 val_main_v16 val_main_v15 val_main_v14 val_main_v13 val_main_v12 val_main_v11 val_main_v10 val_main_v9 val_main_v8 val_main_cst val_main_cst_0 val_main_cst_1
  generalize val_main_v5 x3 x4 x5 = y at *
  pointwise [rms, ← div256, hs]

/-- The four mixers' outputs against the projection. -/
theorem proj_at (j : Fin 1024) : val_main_v25 x0 x1 x2 x3 x4 x5 x8 x9 (ix3 b n j)
    = ∑ k : Fin 1024, val_main_v22 x0 x1 x2 x3 x4 x5 x8 (ix3 b n k) * x9 (ix3 3 k j) := by
  unfold val_main_v25 val_main_v24 val_main_v23
  generalize val_main_v22 x0 x1 x2 x3 x4 x5 x8 = y
  pointwise

/-- The first 512 lanes of the four mixers' outputs: the two attention mixers. -/
theorem cat_ab (k : Fin 512) : val_main_v22 x0 x1 x2 x3 x4 x5 x8 (ix3 b n ⟨k, by omega⟩)
    = if hk : k.val < 256 then x0 (ix3 b n ⟨k, hk⟩) else x1 (ix3 b n ⟨k - 256, by omega⟩) := by
  unfold val_main_v22
  generalize val_main_v20 x3 x4 x5 x8 = y
  have h1 : k.val - 256 < 256 := by omega
  pointwise [h1]

/-- The next 256 lanes: the third mixer. -/
theorem cat_c (k : Fin 256) : val_main_v22 x0 x1 x2 x3 x4 x5 x8 (ix3 b n ⟨512 + k, by omega⟩) = x2 (ix3 b n k) := by
  unfold val_main_v22
  generalize val_main_v20 x3 x4 x5 x8 = y
  have h0 : ¬ 512 + k.val < 256 := by omega
  have h1 : ¬ 512 + k.val - 256 < 256 := by omega
  have h2 : 512 + k.val - 256 - 256 < 256 := by omega
  have e : 512 + k.val - 256 - 256 = k.val := by omega
  pointwise [h0, h1, h2, e]

/-- The last 256 lanes: the state-space mixer. -/
theorem cat_d (k : Fin 256) : val_main_v22 x0 x1 x2 x3 x4 x5 x8 (ix3 b n ⟨768 + k, by omega⟩) = val_main_v20 x3 x4 x5 x8 (ix3 b n k) := by
  unfold val_main_v22
  generalize val_main_v20 x3 x4 x5 x8 = y
  have h0 : ¬ 768 + k.val < 256 := by omega
  have h1 : ¬ 768 + k.val - 256 < 256 := by omega
  have h2 : ¬ 768 + k.val - 256 - 256 < 256 := by omega
  have e : 768 + k.val - 256 - 256 - 256 = k.val := by omega
  pointwise [h0, h1, h2, e]

/-- A sum over 1024 lanes as the kernel splits it: 512, 256 and 256. -/
theorem sum_split (f : Fin 1024 → EReal) : ∑ k, f k
    = (∑ k : Fin 512, f ⟨k, by omega⟩) + (∑ k : Fin 256, f ⟨512 + k, by omega⟩) + ∑ k : Fin 256, f ⟨768 + k, by omega⟩ :=
  (Fin.sum_univ_add (a := 512 + 256) (b := 256) f).trans
    (congrArg (· + _) (Fin.sum_univ_add (a := 512) (b := 256) fun k => f (Fin.castAdd 256 k)))

/-- The four mixers' outputs against the projection, lane group by lane group. -/
theorem proj_split (j : Fin 1024) : val_main_v25 x0 x1 x2 x3 x4 x5 x8 x9 (ix3 b n j)
    = (∑ k : Fin 512, (if hk : k.val < 256 then x0 (ix3 b n ⟨k, hk⟩) else x1 (ix3 b n ⟨k - 256, by omega⟩)) * x9 (ix3 3 ⟨k, by omega⟩ j))
      + (∑ k : Fin 256, x2 (ix3 b n k) * x9 (ix3 3 ⟨512 + k, by omega⟩ j))
      + ∑ k : Fin 256, val_main_v20 x3 x4 x5 x8 (ix3 b n k) * x9 (ix3 3 ⟨768 + k, by omega⟩ j) := by
  rw [proj_at, sum_split]
  simp only [cat_ab, cat_c, cat_d]

/-- The result at an index. -/
theorem res_at (j : Fin 1024) : val_main_v41 x0 x1 x2 x3 x4 x5 x6 x7 x8 x9 x10 (ix3 b n j)
    = rms c1024 (fun j => x6 (ix3 b n j) + x7 (ix2 b ⟨2048 + j, by omega⟩) * val_main_v25 x0 x1 x2 x3 x4 x5 x8 x9 (ix3 b n j))
        (fun j => x10 (ix1 j)) j := by
  unfold val_main_v41 val_main_v40 val_main_v39 val_main_v38 val_main_v37 val_main_v36 val_main_v35 val_main_v34 val_main_v33 val_main_v32 val_main_v31 val_main_v30 val_main_v29 val_main_v28 val_main_v27 val_main_v26 val_main_v21 val_main_v2 val_main_cst_2 val_main_cst_3 val_main_cst_4
  generalize val_main_v25 x0 x1 x2 x3 x4 x5 x8 x9 = y
  pointwise [rms, ← div1024]

end Cert.OutRef

end
-- ==== Proof.InBody.lean ====
/- The input projection's kernel body, read at an index: two batches' rows normalised and modulated, one above the
   other, then the projection by groups of columns; the gates, the state-space inputs and the step sizes of its result. -/
module

public import proofs.«01_k».proof.Proof.Gen.Kernel3Ideal.Frame
public import proofs.«01_k».proof.Proof.OutBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InBody

open Cert.Kernel3Ideal Cert.Kernel3Ideal.Gen Idealize.ShloMosaic Idealize.ShloMosaic.TcCoe Idealize.SL.Sem
open Cert.OutBody (rms c1024)

/-- The gates' activation: a number times its logistic. -/
def silu (y : EReal) : EReal := y * Ideal.div 1 (1 + Ideal.exp (-y))

/-- The step sizes' activation, in the form that adds the smaller part to the maximum. -/
def softplus (y : EReal) : EReal := max y 0 + Ideal.log (1 + Ideal.exp (-max y (-y)))

/-- The magnitude of a number as a maximum. -/
theorem absf_eq (x : Ideal .f32) : FloatOps.absf x = (max (x : EReal) (-(x : EReal)) : EReal) := rfl

/-! ## The gates' and the steps' payloads -/

section Pay
variable (a : FVec Ideal S512x768 .f32) (z : FVec Ideal S512x1024 .f32) (d : Vec Ideal S1x1x128 .f32) (r : Fin 256)

theorem pay39_at (i : Fin 256) : k0_pay39 (F := Ideal) a (ix3 0 r i) = silu (a (ix2 ⟨r, by omega⟩ ⟨512 + i, by omega⟩)) := by
  pointwise [k0_pay39, silu, zero_sub]
theorem pay65_at (i : Fin 256) : k0_pay65 (F := Ideal) (k0_pay63 a) (k0_pay64 a) (ix3 0 r i)
    = silu (a (ix2 ⟨256 + r, by omega⟩ ⟨512 + i, by omega⟩)) := by
  pointwise [k0_pay65, k0_pay64, k0_pay63, silu, zero_sub]
theorem pay100_at (i : Fin 256) : k0_pay100 (F := Ideal) a (ix3 0 r i) = silu (a (ix2 ⟨r, by omega⟩ ⟨512 + i, by omega⟩)) := by
  pointwise [k0_pay100, silu, zero_sub]
theorem pay135_at (i : Fin 256) : k0_pay135 (F := Ideal) a (ix3 0 r i) = silu (a (ix2 ⟨256 + r, by omega⟩ ⟨512 + i, by omega⟩)) := by
  pointwise [k0_pay135, silu, zero_sub]
theorem pay153_at (i : Fin 256) : k0_pay153 (F := Ideal) a (ix3 0 r i) = silu (a (ix2 ⟨r, by omega⟩ ⟨512 + i, by omega⟩)) := by
  pointwise [k0_pay153, silu, zero_sub]
theorem pay173_at (i : Fin 256) : k0_pay173 (F := Ideal) a (ix3 0 r i) = silu (a (ix2 ⟨256 + r, by omega⟩ ⟨512 + i, by omega⟩)) := by
  pointwise [k0_pay173, silu, zero_sub]
theorem pay175_at (i : Fin 256) : k0_pay175 (F := Ideal) (k0_pay174 z) (ix3 0 r i) = silu (z (ix2 ⟨r, by omega⟩ ⟨i, by omega⟩)) := by
  pointwise [k0_pay175, k0_pay174, silu, zero_sub]
theorem pay180_at (i : Fin 256) : k0_pay180 (F := Ideal) (k0_pay178 z) (k0_pay179 z) (ix3 0 r i)
    = silu (z (ix2 ⟨256 + r, by omega⟩ ⟨i, by omega⟩)) := by
  pointwise [k0_pay180, k0_pay179, k0_pay178, silu, zero_sub]
theorem pay176_at (i : Fin 768) : k0_pay176 (F := Ideal) z (ix3 0 r i) = z (ix2 ⟨r, by omega⟩ ⟨256 + i, by omega⟩) := by
  pointwise [k0_pay176]
theorem pay181_at (i : Fin 768) : k0_pay181 (F := Ideal) z (ix3 0 r i) = z (ix2 ⟨256 + r, by omega⟩ ⟨256 + i, by omega⟩) := by
  pointwise [k0_pay181]
theorem pay177_at (i : Fin 128) : k0_pay177 (F := Ideal) a d (ix3 0 r i)
    = softplus (a (ix2 ⟨r, by omega⟩ ⟨384 + i, by omega⟩) + d (ix3 0 0 i)) := by
  pointwise [k0_pay177, softplus, zero_sub, absf_eq]
theorem pay1_at (i : Fin 128) : k0_pay1 (F := Ideal) (k0_pay182 a d) k0_pay183 (ix3 0 r i)
    = softplus (a (ix2 ⟨256 + r, by omega⟩ ⟨384 + i, by omega⟩) + d (ix3 0 0 i)) := by
  pointwise [k0_pay1, k0_pay182, k0_pay183, softplus, zero_sub, absf_eq]
end Pay

/-! ## The modulated rows and their products -/

section Block
variable (x0 : Vec Ideal S2x256x1024 .f32) (x1 : Vec Ideal S1x2x3x1024 .f32) (x2 : Vec Ideal S1x1x1024 .f32)
  (x3 : Vec Ideal S1x1024x3328 .bf16) (x4 : Vec Ideal S1x256x512 .bf16) (x5 : Vec Ideal S1x128x768 .bf16) (x6 : Vec Ideal S1x8x256 .f32)
  (x7 : Vec Ideal S6x256x128 .f32) (b : Fin 2) (r : Fin 256)

/-- A row normalised, scaled and shifted. -/
def hrow (k : Fin 1024) : EReal :=
  rms c1024 (fun k => x0 (ix3 b r k)) (fun k => x2 (ix3 0 0 k)) k * (1 + x1 (ix4 0 b 1 k)) + x1 (ix4 0 b 0 k)

/-- A row against one column of the projection. -/
def pcol (j : Fin 3328) : EReal := ∑ k, hrow x0 x1 x2 b r k * x3 (ix3 0 k j)

theorem hcat_at (k : Fin 1024) : k0_pay186 (F := Ideal) x0 x1 x2 x3 x4 x5 x6 x7 (ix2 ⟨256 * b + r, by omega⟩ k) = hrow x0 x1 x2 b r k := by
  obtain ⟨b, hb⟩ := b
  rcases (by omega : b = 0 ∨ b = 1) with rfl | rfl
  · rw [show (⟨256 * (⟨0, hb⟩ : Fin 2) + r, by dsimp only; omega⟩ : Fin 512) = ⟨r, by omega⟩ from Fin.ext (by dsimp only; omega)]
    pointwise [k0_pay186, k0_pay6, k0_pay3, hrow, rms, c1024]
  · rw [show (⟨256 * (⟨1, hb⟩ : Fin 2) + r, by dsimp only; omega⟩ : Fin 512) = ⟨256 + r, by omega⟩ from Fin.ext (by dsimp only)]
    pointwise [k0_pay186, k0_pay6, k0_pay5, k0_pay4, hrow, rms, c1024]

theorem prod0_at (j : Fin 768) : k0_pay193 (F := Ideal) x0 x1 x2 x3 x4 x5 x6 x7 (ix2 ⟨256 * b + r, by omega⟩ j)
    = pcol x0 x1 x2 x3 b r ⟨j, by omega⟩ := by
  have h := hcat_at x0 x1 x2 x3 x4 x5 x6 x7 b r
  unfold k0_pay193
  generalize k0_pay186 (F := Ideal) x0 x1 x2 x3 x4 x5 x6 x7 = a at *
  pointwise [k0_pay13, pcol, h]

theorem prod1_at (j : Fin 768) : k0_pay194 (F := Ideal) x0 x1 x2 x3 x4 x5 x6 x7 (ix2 ⟨256 * b + r, by omega⟩ j)
    = pcol x0 x1 x2 x3 b r ⟨768 + j, by omega⟩ := by
  have h := hcat_at x0 x1 x2 x3 x4 x5 x6 x7 b r
  unfold k0_pay194
  generalize k0_pay186 (F := Ideal) x0 x1 x2 x3 x4 x5 x6 x7 = a at *
  pointwise [k0_pay14, pcol, h]

theorem prod2_at (j : Fin 768) : k0_pay208 (F := Ideal) x0 x1 x2 x3 x4 x5 x6 x7 (ix2 ⟨256 * b + r, by omega⟩ j)
    = pcol x0 x1 x2 x3 b r ⟨1536 + j, by omega⟩ := by
  have h := hcat_at x0 x1 x2 x3 x4 x5 x6 x7 b r
  unfold k0_pay208
  generalize k0_pay186 (F := Ideal) x0 x1 x2 x3 x4 x5 x6 x7 = a at *
  pointwise [k0_pay66, pcol, h]

theorem prod3_at (j : Fin 1024) : k0_pay227 (F := Ideal) x0 x1 x2 x3 x4 x5 x6 x7 (ix2 ⟨256 * b + r, by omega⟩ j)
    = pcol x0 x1 x2 x3 b r ⟨2304 + j, by omega⟩ := by
  have h := hcat_at x0 x1 x2 x3 x4 x5 x6 x7 b r
  unfold k0_pay227
  generalize k0_pay186 (F := Ideal) x0 x1 x2 x3 x4 x5 x6 x7 = a at *
  pointwise [k0_pay136, pcol, h]

/-! ## The body's blocks -/

/-- The projection's column of a gate lane. -/
def gcol (j : Fin 1024) : Fin 3328 := ⟨(if j.val < 256 then 512 else if j.val < 512 then 1024 else 1536) + j, by split_ifs <;> omega⟩

/-- An index of one batch's block by its row and lane. -/
theorem idx_eq {n : ℕ} (x : (⟨3, ![1, 256, n]⟩ : Shape).Idx) : ∃ (r : Fin 256) (j : Fin n), x = ix3 0 r j := by
  refine ⟨x (1 : Fin 3), x (2 : Fin 3), ?_⟩
  funext a; apply Fin.ext
  fin_cases a
  · exact Nat.lt_one_iff.mp (x (0 : Fin 3)).isLt
  · rfl
  · rfl

/-- A product's row of the first batch, and of the second. -/
theorem rows {n : ℕ} (a : FVec Ideal ⟨2, ![512, n]⟩ .f32) (f : Fin 2 → Fin 256 → Fin n → EReal)
    (h : ∀ (b : Fin 2) (r : Fin 256) (j : Fin n), a (ix2 ⟨256 * b + r, by omega⟩ j) = f b r j) :
    (∀ (r : Fin 256) (j : Fin n), a (ix2 ⟨r, by omega⟩ j) = f 0 r j) ∧ ∀ (r : Fin 256) (j : Fin n), a (ix2 ⟨256 + r, by omega⟩ j) = f 1 r j :=
  ⟨fun r j => (congrArg (fun i => a (ix2 i j)) (Fin.ext (by simp))).trans (h 0 r j), fun r j => h 1 r j⟩

/-- The gates a point leaves. -/
theorem gates_at (j : Fin 1024) : out0_12 (F := Ideal) x0 x1 x2 x3 x4 x5 x6 x7 (ix3 b r j) = silu (pcol x0 x1 x2 x3 b r (gcol j)) := by
  unfold out0_12
  refine (View.canon_apply_of_pieces (fun y : S2x256x1024.Idx => silu (pcol x0 x1 x2 x3 (y (0 : Fin 3)) (y (1 : Fin 3)) (gcol (y (2 : Fin 3)))))
    _ ?_ (ix3 b r j) (cover0_12 _ _ _ _ _ _ _ _ _)).trans rfl
  obtain ⟨p00, p01⟩ := rows _ _ (prod0_at x0 x1 x2 x3 x4 x5 x6 x7)
  obtain ⟨p10, p11⟩ := rows _ _ (prod1_at x0 x1 x2 x3 x4 x5 x6 x7)
  obtain ⟨p20, p21⟩ := rows _ _ (prod2_at x0 x1 x2 x3 x4 x5 x6 x7)
  obtain ⟨p30, p31⟩ := rows _ _ (prod3_at x0 x1 x2 x3 x4 x5 x6 x7)
  generalize k0_pay193 (F := Ideal) x0 x1 x2 x3 x4 x5 x6 x7 = a0 at *
  generalize k0_pay194 (F := Ideal) x0 x1 x2 x3 x4 x5 x6 x7 = a1 at *
  generalize k0_pay208 (F := Ideal) x0 x1 x2 x3 x4 x5 x6 x7 = a2 at *
  generalize k0_pay227 (F := Ideal) x0 x1 x2 x3 x4 x5 x6 x7 = a3 at *
  have c0 : ∀ i : Fin 256, gcol ⟨i, by omega⟩ = ⟨512 + i, by omega⟩ := fun i => Fin.ext (by simp [gcol])
  have c1 : ∀ i : Fin 256, gcol ⟨256 + i, by omega⟩ = ⟨768 + (512 + i), by omega⟩ := fun i => Fin.ext (by
    have h : 256 + i.val < 512 := by omega
    simp [gcol, h]; omega)
  have c2 : ∀ i : Fin 256, gcol ⟨512 + i, by omega⟩ = ⟨1536 + (512 + i), by omega⟩ := fun i => Fin.ext (by
    have h : ¬ 512 + i.val < 256 := by omega
    simp [gcol, h])
  have c3 : ∀ i : Fin 256, gcol ⟨768 + i, by omega⟩ = ⟨2304 + i, by omega⟩ := fun i => Fin.ext (by
    have h : ¬ 768 + i.val < 256 := by omega
    have h' : ¬ 768 + i.val < 512 := by omega
    simp [gcol, h, h']; omega)
  intro p hp
  simp only [List.mem_cons, List.not_mem_nil, or_false] at hp
  rcases hp with rfl | rfl | rfl | rfl | rfl | rfl | rfl | rfl
  all_goals
    intro x
    obtain ⟨r', i, rfl⟩ := idx_eq x
  · have he : r0_49.emb (ix3 0 r' i) = (ix3 1 r' ⟨768 + i, by omega⟩ : S2x256x1024.Idx) := by blk_ext []
    refine (pay180_at a3 r' i).trans ?_
    dsimp only
    rw [he, p31]
    exact congrArg (fun c => silu (pcol x0 x1 x2 x3 1 r' c)) (c3 i).symm
  · have he : r0_45.emb (ix3 0 r' i) = (ix3 0 r' ⟨768 + i, by omega⟩ : S2x256x1024.Idx) := by blk_ext []
    refine (pay175_at a3 r' i).trans ?_
    dsimp only
    rw [he, p30]
    exact congrArg (fun c => silu (pcol x0 x1 x2 x3 0 r' c)) (c3 i).symm
  · have he : r0_44.emb (ix3 0 r' i) = (ix3 1 r' ⟨512 + i, by omega⟩ : S2x256x1024.Idx) := by blk_ext []
    refine (pay173_at a2 r' i).trans ?_
    dsimp only
    rw [he, p21]
    exact congrArg (fun c => silu (pcol x0 x1 x2 x3 1 r' c)) (c2 i).symm
  · have he : r0_43.emb (ix3 0 r' i) = (ix3 0 r' ⟨512 + i, by omega⟩ : S2x256x1024.Idx) := by blk_ext []
    refine (pay153_at a2 r' i).trans ?_
    dsimp only
    rw [he, p20]
    exact congrArg (fun c => silu (pcol x0 x1 x2 x3 0 r' c)) (c2 i).symm
  · have he : r0_41.emb (ix3 0 r' i) = (ix3 1 r' ⟨256 + i, by omega⟩ : S2x256x1024.Idx) := by blk_ext []
    refine (pay135_at a1 r' i).trans ?_
    dsimp only
    rw [he, p11]
    exact congrArg (fun c => silu (pcol x0 x1 x2 x3 1 r' c)) (c1 i).symm
  · have he : r0_36.emb (ix3 0 r' i) = (ix3 0 r' ⟨256 + i, by omega⟩ : S2x256x1024.Idx) := by blk_ext []
    refine (pay100_at a1 r' i).trans ?_
    dsimp only
    rw [he, p10]
    exact congrArg (fun c => silu (pcol x0 x1 x2 x3 0 r' c)) (c1 i).symm
  · have he : r0_28.emb (ix3 0 r' i) = (ix3 1 r' ⟨i, by omega⟩ : S2x256x1024.Idx) := by blk_ext []
    refine (pay65_at a0 r' i).trans ?_
    dsimp only
    rw [he, p01]
    exact congrArg (fun c => silu (pcol x0 x1 x2 x3 1 r' c)) (c0 i).symm
  · have he : r0_23.emb (ix3 0 r' i) = (ix3 0 r' ⟨i, by omega⟩ : S2x256x1024.Idx) := by blk_ext []
    refine (pay39_at a0 r' i).trans ?_
    dsimp only
    rw [he, p00]
    exact congrArg (fun c => silu (pcol x0 x1 x2 x3 0 r' c)) (c0 i).symm

/-- The state-space inputs a point leaves. -/
theorem xbc_at (j : Fin 768) : out0_13 (F := Ideal) x0 x1 x2 x3 x4 x5 x6 x7 (ix3 b r j) = pcol x0 x1 x2 x3 b r ⟨2304 + (256 + j), by omega⟩ := by
  unfold out0_13
  refine (View.canon_apply_of_pieces (fun y : S2x256x768.Idx => pcol x0 x1 x2 x3 (y (0 : Fin 3)) (y (1 : Fin 3))
    ⟨2304 + (256 + (y (2 : Fin 3)).val), by have : (y (2 : Fin 3)).val < 768 := (y (2 : Fin 3)).isLt; omega⟩)
    _ ?_ (ix3 b r j) (cover0_13 _ _ _)).trans rfl
  obtain ⟨p30, p31⟩ := rows _ _ (prod3_at x0 x1 x2 x3 x4 x5 x6 x7)
  generalize k0_pay227 (F := Ideal) x0 x1 x2 x3 x4 x5 x6 x7 = a3 at *
  intro p hp
  simp only [List.mem_cons, List.not_mem_nil, or_false] at hp
  rcases hp with rfl | rfl
  all_goals
    intro x
    obtain ⟨r', i, rfl⟩ := idx_eq x
  · have he : r0_50.emb (ix3 0 r' i) = (ix3 1 r' i : S2x256x768.Idx) := by blk_ext []
    refine (pay181_at a3 r' i).trans ?_
    dsimp only
    rw [he, p31]
    rfl
  · have he : r0_46.emb (ix3 0 r' i) = (ix3 0 r' i : S2x256x768.Idx) := by blk_ext []
    refine (pay176_at a3 r' i).trans ?_
    dsimp only
    rw [he, p30]
    rfl

/-- The step sizes a point leaves. -/
theorem dt_at (j : Fin 128) : out0_14 (F := Ideal) x0 x1 x2 x3 x4 x5 x6 x7 (ix3 b r j)
    = softplus (pcol x0 x1 x2 x3 b r ⟨384 + j, by omega⟩ + x6 (ix3 0 4 ⟨j, by omega⟩)) := by
  unfold out0_14
  refine (View.canon_apply_of_pieces (fun y : S2x256x128.Idx => softplus (pcol x0 x1 x2 x3 (y (0 : Fin 3)) (y (1 : Fin 3))
    ⟨384 + (y (2 : Fin 3)).val, by have : (y (2 : Fin 3)).val < 128 := (y (2 : Fin 3)).isLt; omega⟩
      + x6 (ix3 0 4 ⟨(y (2 : Fin 3)).val, by have : (y (2 : Fin 3)).val < 128 := (y (2 : Fin 3)).isLt; omega⟩)))
    _ ?_ (ix3 b r j) (cover0_14 _ _ _)).trans rfl
  obtain ⟨p00, p01⟩ := rows _ _ (prod0_at x0 x1 x2 x3 x4 x5 x6 x7)
  generalize k0_pay193 (F := Ideal) x0 x1 x2 x3 x4 x5 x6 x7 = a0 at *
  have hb : ∀ i : Fin 128, View.ld x6 r0_47 (ix3 0 0 i) = x6 (ix3 0 4 ⟨i, by omega⟩) := fun i => by pointwise
  intro p hp
  simp only [List.mem_cons, List.not_mem_nil, or_false] at hp
  rcases hp with rfl | rfl
  all_goals
    intro x
    obtain ⟨r', i, rfl⟩ := idx_eq x
  · have he : r0_51.emb (ix3 0 r' i) = (ix3 1 r' i : S2x256x128.Idx) := by blk_ext []
    refine (pay1_at a0 _ r' i).trans ?_
    dsimp only
    rw [he, p01, hb]
    rfl
  · have he : r0_48.emb (ix3 0 r' i) = (ix3 0 r' i : S2x256x128.Idx) := by blk_ext []
    refine (pay177_at a0 _ r' i).trans ?_
    dsimp only
    rw [he, p00, hb]
    rfl
end Block

end Cert.InBody

end
-- ==== Proof.InRun.lean ====
/- The input projection's result arrays after the run, element by element: block `(p, i)` holds rows `256 i + r` of batches
   `2 p` and `2 p + 1`. -/
module

public import proofs.«01_k».proof.Proof.Gen.Kernel3Ideal.Value
public import proofs.«01_k».proof.Proof.InBody
public import Idealize.ShloMosaic.Lib.Pipeline.ValueKit

@[expose] public section

set_option maxRecDepth 16384

noncomputable section

namespace Cert.InRun

open Cert.Kernel3Ideal Cert.Kernel3Ideal.Gen Idealize.ShloMosaic Idealize.ShloMosaic.TcCoe Idealize.SL.Sem
open Cert.OutBody (rms c1024)
open Cert.InBody (silu softplus gcol)

variable (m : (ℓ : Loc nD τ sig) → Buf (Elt Ideal) ℓ) (c : Dev nD)

/-- The row of modulation vectors of a token: its batch's, or one of the context's. -/
def mrow (b : Fin 4) (n : Fin 4352) : Fin 8 := ⟨if n.val < 4096 then b else 4 + b % 2, by split_ifs <;> omega⟩

/-- A token's row, normalised and modulated. -/
def hid (b : Fin 4) (n : Fin 4352) (k : Fin 1024) : EReal :=
  rms c1024 (fun k => (V m c main_v148 (ix3 b n k) : EReal)) (fun k => (V m c main_v149 (ix3 1 0 k) : EReal)) k
      * (1 + (V m c main_v4 (ix4 1 (mrow b n) 1 k) : EReal)) + (V m c main_v4 (ix4 1 (mrow b n) 0 k) : EReal)

/-- A token's row against one column of the projection. -/
def col (b : Fin 4) (n : Fin 4352) (j : Fin 3328) : EReal := ∑ k, hid m c b n k * (V m c main_v17 (ix3 1 k j) : EReal)

/-- Every window's block index, in terms of the gates'. -/
theorem index_facts : ∀ t : Fin cfg0.grid.N,
    (win0_12.index t 0 < 2 ∧ win0_12.index t 1 < 17 ∧ win0_12.index t 2 = 0)
    ∧ (win0_0.index t 0 = win0_12.index t 0 ∧ win0_0.index t 1 = win0_12.index t 1 ∧ win0_0.index t 2 = 0)
    ∧ (win0_1.index t 0 = 1 ∧ win0_1.index t 1 = (if win0_12.index t 1 < 16 then win0_12.index t 0 else 2)
        ∧ win0_1.index t 2 = 0 ∧ win0_1.index t 3 = 0)
    ∧ (win0_2.index t 0 = 1 ∧ win0_2.index t 1 = 0 ∧ win0_2.index t 2 = 0)
    ∧ (win0_3.index t 0 = 1 ∧ win0_3.index t 1 = 0 ∧ win0_3.index t 2 = 0)
    ∧ (win0_6.index t 0 = 1 ∧ win0_6.index t 1 = 0 ∧ win0_6.index t 2 = 0)
    ∧ (win0_13.index t 0 = win0_12.index t 0 ∧ win0_13.index t 1 = win0_12.index t 1 ∧ win0_13.index t 2 = 0)
    ∧ (win0_14.index t 0 = win0_12.index t 0 ∧ win0_14.index t 1 = win0_12.index t 1 ∧ win0_14.index t 2 = 0) := by
  decide +kernel

section Block

variable (t : Fin cfg0.grid.N) (p : Fin 2) (i : Fin 17) (h0 : win0_12.index t 0 = p) (h1 : win0_12.index t 1 = i) (b : Fin 2) (r : Fin 256)
include h0 h1

/-- Where the tokens' block lies in its array. -/
theorem x_place (k : Fin 1024) : ((cfg0.win 0).blk t).view.emb (ix3 b r k) = (ix3 ⟨2 * p + b, by omega⟩ ⟨256 * i + r, by omega⟩ k : S4x4352x1024.Idx) := by
  obtain ⟨-, ⟨e0, e1, e2⟩, -⟩ := index_facts t
  rw [h0] at e0
  rw [h1] at e1
  blk_ext [e0, e1, e2]

/-- The tokens' block at a point. -/
theorem x_block (k : Fin 1024) : iblk m c 0 t (ix3 b r k) = (V m c main_v148 (ix3 ⟨2 * p + b, by omega⟩ ⟨256 * i + r, by omega⟩ k) : EReal) := by
  unfold iblk
  generalize V m c (Pipeline.arrRef spec0 0) = x
  rw [View.read_apply]
  rw [x_place t p i h0 h1 b r k]
  exact cast_eq rfl _

/-- Where the modulation vectors' block lies in its array. -/
theorem m_place (s : Fin 3) (k : Fin 1024) : ((cfg0.win 1).blk t).view.emb (ix4 0 b s k : S1x2x3x1024.Idx)
    = (ix4 1 (mrow ⟨2 * p + b, by omega⟩ ⟨256 * i + r, by omega⟩) s k : S4x8x3x1024.Idx) := by
  obtain ⟨-, -, ⟨e0, e1, e2, e3⟩, -⟩ := index_facts t
  rw [h0, h1] at e1
  unfold mrow
  by_cases hi : i.val < 16
  · have hn : 256 * i.val + r.val < 4096 := by omega
    simp only [hi, hn, if_true] at *
    blk_ext [e0, e1, e2, e3]
  · have hn : ¬ 256 * i.val + r.val < 4096 := by omega
    simp only [hi, hn, if_false] at *
    blk_ext [e0, e1, e2, e3]

/-- The modulation vectors' block at a point. -/
theorem m_block (s : Fin 3) (k : Fin 1024) : iblk m c 1 t (ix4 0 b s k : S1x2x3x1024.Idx)
    = (V m c main_v4 (ix4 1 (mrow ⟨2 * p + b, by omega⟩ ⟨256 * i + r, by omega⟩) s k) : EReal) := by
  unfold iblk
  generalize V m c (Pipeline.arrRef spec0 1) = x
  rw [View.read_apply]
  rw [m_place t p i h0 h1 b r s k]
  exact cast_eq rfl _

omit h0 h1 in
/-- Where the norm's block lies in its array. -/
theorem n_place (k : Fin 1024) : ((cfg0.win 2).blk t).view.emb (ix3 0 0 k) = (ix3 1 0 k : S4x1x1024.Idx) := by
  obtain ⟨-, -, -, ⟨e0, e1, e2⟩, -⟩ := index_facts t
  blk_ext [e0, e1, e2]

omit h0 h1 in
/-- The norm's block at a point. -/
theorem n_block (k : Fin 1024) : iblk m c 2 t (ix3 0 0 k) = (V m c main_v149 (ix3 1 0 k) : EReal) := by
  unfold iblk
  generalize V m c (Pipeline.arrRef spec0 2) = x
  rw [View.read_apply]
  rw [n_place t k]
  exact cast_eq rfl _

omit h0 h1 in
/-- Where the weights' block lies in its array. -/
theorem w_place (k : Fin 1024) (j : Fin 3328) : ((cfg0.win 3).blk t).view.emb (ix3 0 k j) = (ix3 1 k j : S4x1024x3328.Idx) := by
  obtain ⟨-, -, -, -, ⟨e0, e1, e2⟩, -⟩ := index_facts t
  blk_ext [e0, e1, e2]

omit h0 h1 in
/-- The weights' block at a point. -/
theorem w_block (k : Fin 1024) (j : Fin 3328) : iblk m c 3 t (ix3 0 k j) = (V m c main_v17 (ix3 1 k j) : EReal) := by
  unfold iblk
  generalize V m c (Pipeline.arrRef spec0 3) = x
  rw [View.read_apply]
  rw [w_place t k j]
  exact cast_eq rfl _

omit h0 h1 in
/-- Where the packed vectors' block lies in its array. -/
theorem p_place (l : Fin 256) : ((cfg0.win 6).blk t).view.emb (ix3 0 4 l) = (ix3 1 4 l : S4x8x256.Idx) := by
  obtain ⟨-, -, -, -, -, ⟨e0, e1, e2⟩, -⟩ := index_facts t
  blk_ext [e0, e1, e2]

omit h0 h1 in
/-- The packed vectors' block at a point. -/
theorem p_block (l : Fin 256) : iblk m c 6 t (ix3 0 4 l) = (V m c main_v147 (ix3 1 4 l) : EReal) := by
  unfold iblk
  generalize V m c (Pipeline.arrRef spec0 6) = x
  rw [View.read_apply]
  rw [p_place t l]
  exact cast_eq rfl _

/-- A row of a point against a column. -/
theorem col_eq (j : Fin 3328) : InBody.pcol (iblk m c 0 t) (iblk m c 1 t) (iblk m c 2 t) (iblk m c 3 t) b r j
    = col m c ⟨2 * p + b, by omega⟩ ⟨256 * i + r, by omega⟩ j := by
  unfold InBody.pcol InBody.hrow col hid
  simp only [x_block m c t p i h0 h1, m_block m c t p i h0 h1 b r, n_block m c t, w_block m c t]

/-- Where the gates' block lies in its array. -/
theorem g_place (j : Fin 1024) (y : ((cfg0.win 12).xblock (cfg0.grid.coords t)).Idx)
    (y0 : (y (0 : Fin 3)).val = b) (y1 : (y (1 : Fin 3)).val = r) (y2 : (y (2 : Fin 3)).val = j) :
    ((cfg0.win 12).blk t).view.emb y = (ix3 ⟨2 * p + b, by omega⟩ ⟨256 * i + r, by omega⟩ j : S4x4352x1024.Idx) := by
  obtain ⟨⟨-, -, e2⟩, -⟩ := index_facts t
  blk_ext [h0, h1, e2]

/-- Where the state-space inputs' block lies in its array. -/
theorem s_place (j : Fin 768) (y : ((cfg0.win 13).xblock (cfg0.grid.coords t)).Idx)
    (y0 : (y (0 : Fin 3)).val = b) (y1 : (y (1 : Fin 3)).val = r) (y2 : (y (2 : Fin 3)).val = j) :
    ((cfg0.win 13).blk t).view.emb y = (ix3 ⟨2 * p + b, by omega⟩ ⟨256 * i + r, by omega⟩ j : S4x4352x768.Idx) := by
  obtain ⟨-, -, -, -, -, -, ⟨e0, e1, e2⟩, -⟩ := index_facts t
  rw [h0] at e0
  rw [h1] at e1
  blk_ext [e0, e1, e2]

/-- Where the step sizes' block lies in its array. -/
theorem d_place (j : Fin 128) (y : ((cfg0.win 14).xblock (cfg0.grid.coords t)).Idx)
    (y0 : (y (0 : Fin 3)).val = b) (y1 : (y (1 : Fin 3)).val = r) (y2 : (y (2 : Fin 3)).val = j) :
    ((cfg0.win 14).blk t).view.emb y = (ix3 ⟨2 * p + b, by omega⟩ ⟨256 * i + r, by omega⟩ j : S4x4352x128.Idx) := by
  obtain ⟨-, -, -, -, -, -, -, ⟨e0, e1, e2⟩⟩ := index_facts t
  rw [h0] at e0
  rw [h1] at e1
  blk_ext [e0, e1, e2]

end Block

/-! ## The results, element by element -/

/-- The gates' array. -/
def gatesA (i : S4x4352x1024.Idx) : EReal := silu (col m c (i (0 : Fin 3)) (i (1 : Fin 3)) (gcol (i (2 : Fin 3))))

/-- The state-space inputs' array. -/
def xbcA (i : S4x4352x768.Idx) : EReal := col m c (i (0 : Fin 3)) (i (1 : Fin 3)) ⟨2304 + (256 + (i (2 : Fin 3)).val), by
  have : (i (2 : Fin 3)).val < 768 := (i (2 : Fin 3)).isLt; omega⟩

/-- The step sizes' array. -/
def dtA (i : S4x4352x128.Idx) : EReal := softplus (col m c (i (0 : Fin 3)) (i (1 : Fin 3)) ⟨384 + (i (2 : Fin 3)).val, by
    have : (i (2 : Fin 3)).val < 128 := (i (2 : Fin 3)).isLt; omega⟩
  + (V m c main_v147 (ix3 1 4 ⟨(i (2 : Fin 3)).val, by have : (i (2 : Fin 3)).val < 128 := (i (2 : Fin 3)).isLt; omega⟩) : EReal))

/-- An index of a point's block by batch, row and lane. -/
theorem idx_eq {n : ℕ} (y : (⟨3, ![2, 256, n]⟩ : Shape).Idx) : y = ix3 (y (0 : Fin 3)) (y (1 : Fin 3)) (y (2 : Fin 3)) := by
  funext a; fin_cases a <;> rfl

/-- The gates. -/
theorem gates_eq : (dats m 0 c).arrAt 12 cfg0.N
    = gatesA m c := by
  refine (dats m 0 c).arrAt_eq_of_covers 12 _ (by decide +kernel) fun t hf y => ?_
  obtain ⟨⟨e0, e1, e2⟩, -⟩ := index_facts t
  have b0 : (y (0 : Fin 3)).val < 2 := (y (0 : Fin 3)).isLt
  have b1 : (y (1 : Fin 3)).val < 256 := (y (1 : Fin 3)).isLt
  have b2 : (y (2 : Fin 3)).val < 1024 := (y (2 : Fin 3)).isLt
  have key := (InBody.gates_at (iblk m c 0 t) (iblk m c 1 t) (iblk m c 2 t) (iblk m c 3 t) (iblk m c 4 t) (iblk m c 5 t) (iblk m c 6 t)
    (iblk m c 7 t) ⟨_, b0⟩ ⟨_, b1⟩ ⟨_, b2⟩).trans (congrArg silu (col_eq m c t ⟨_, e0⟩ ⟨_, e1⟩ rfl rfl ⟨_, b0⟩ ⟨_, b1⟩ _))
  have hp := g_place t ⟨_, e0⟩ ⟨_, e1⟩ rfl rfl ⟨_, b0⟩ ⟨_, b1⟩ ⟨_, b2⟩ y rfl rfl rfl
  have hy : y = (ix3 ⟨_, b0⟩ ⟨_, b1⟩ ⟨_, b2⟩ : (⟨3, ![2, 256, 1024]⟩ : Shape).Idx) := idx_eq y
  rw [← hy] at key
  blk_simp
  rw [after0_12, hp]
  exact key

/-- The state-space inputs. -/
theorem xbc_eq : (dats m 0 c).arrAt 13 cfg0.N
    = xbcA m c := by
  refine (dats m 0 c).arrAt_eq_of_covers 13 _ (by decide +kernel) fun t hf y => ?_
  obtain ⟨⟨e0, e1, e2⟩, -⟩ := index_facts t
  have b0 : (y (0 : Fin 3)).val < 2 := (y (0 : Fin 3)).isLt
  have b1 : (y (1 : Fin 3)).val < 256 := (y (1 : Fin 3)).isLt
  have b2 : (y (2 : Fin 3)).val < 768 := (y (2 : Fin 3)).isLt
  have key := (InBody.xbc_at (iblk m c 0 t) (iblk m c 1 t) (iblk m c 2 t) (iblk m c 3 t) (iblk m c 4 t) (iblk m c 5 t) (iblk m c 6 t)
    (iblk m c 7 t) ⟨_, b0⟩ ⟨_, b1⟩ ⟨_, b2⟩).trans (col_eq m c t ⟨_, e0⟩ ⟨_, e1⟩ rfl rfl ⟨_, b0⟩ ⟨_, b1⟩ _)
  have hp := s_place t ⟨_, e0⟩ ⟨_, e1⟩ rfl rfl ⟨_, b0⟩ ⟨_, b1⟩ ⟨_, b2⟩ y rfl rfl rfl
  have hy : y = (ix3 ⟨_, b0⟩ ⟨_, b1⟩ ⟨_, b2⟩ : (⟨3, ![2, 256, 768]⟩ : Shape).Idx) := idx_eq y
  rw [← hy] at key
  blk_simp
  rw [after0_13, hp]
  exact key

/-- The step sizes. -/
theorem dt_eq : (dats m 0 c).arrAt 14 cfg0.N
    = dtA m c := by
  refine (dats m 0 c).arrAt_eq_of_covers 14 _ (by decide +kernel) fun t hf y => ?_
  obtain ⟨⟨e0, e1, e2⟩, -⟩ := index_facts t
  have b0 : (y (0 : Fin 3)).val < 2 := (y (0 : Fin 3)).isLt
  have b1 : (y (1 : Fin 3)).val < 256 := (y (1 : Fin 3)).isLt
  have b2 : (y (2 : Fin 3)).val < 128 := (y (2 : Fin 3)).isLt
  have key := InBody.dt_at (iblk m c 0 t) (iblk m c 1 t) (iblk m c 2 t) (iblk m c 3 t) (iblk m c 4 t) (iblk m c 5 t) (iblk m c 6 t)
    (iblk m c 7 t) ⟨_, b0⟩ ⟨_, b1⟩ ⟨_, b2⟩
  rw [col_eq m c t ⟨_, e0⟩ ⟨_, e1⟩ rfl rfl ⟨_, b0⟩ ⟨_, b1⟩ _, p_block m c t] at key
  have hp := d_place t ⟨_, e0⟩ ⟨_, e1⟩ rfl rfl ⟨_, b0⟩ ⟨_, b1⟩ ⟨_, b2⟩ y rfl rfl rfl
  have hy : y = (ix3 ⟨_, b0⟩ ⟨_, b1⟩ ⟨_, b2⟩ : (⟨3, ![2, 256, 128]⟩ : Shape).Idx) := idx_eq y
  rw [← hy] at key
  blk_simp
  rw [after0_14, hp]
  exact key

end Cert.InRun

end
-- ==== Proof.InPrefix.lean ====
/- The host operations before the input projection: each window's array read at an index. -/
module

public import proofs.«01_k».proof.Proof.Gen.Kernel3Ideal.Frame
public import Idealize.ShloMosaic.Lib.Pointwise
public import Idealize.ShloMosaic.Lib.StableHlo.ReadAt
public import Idealize.ShloMosaic.Lib.Pipeline.ValueKit
public import Idealize.ShloMosaic.Lib.KernelVsHost

@[expose] public section

set_option maxRecDepth 16384

noncomputable section

namespace Cert.InPrefix

open Cert.Kernel3Ideal Cert.Kernel3Ideal.Gen Idealize.ShloMosaic Idealize.ShloMosaic.TcCoe Idealize.SL.Sem

variable (m : (ℓ : Loc nD τ sig) → Buf (Elt Ideal) ℓ)

/-! ## The arguments, as arrays of extended reals -/

section Args
variable (c : Dev nD)
def xs : S4x4096x1024.Idx → EReal := m ((c.tc : Thread nD τ).loc main_arg0)
def xcs : S4x256x1024.Idx → EReal := m ((c.tc : Thread nD τ).loc main_arg1)
def mods : S4x3072.Idx → EReal := m ((c.tc : Thread nD τ).loc main_arg2)
def modc : S3072.Idx → EReal := m ((c.tc : Thread nD τ).loc main_arg3)
def nw : S4x1024.Idx → EReal := m ((c.tc : Thread nD τ).loc main_arg4)
def wi : S4x1024x3240.Idx → EReal := m ((c.tc : Thread nD τ).loc main_arg5)
def dtb : S4x2x4.Idx → EReal := m ((c.tc : Thread nD τ).loc main_arg12)
end Args

/-! ## Columns put into the weights -/

section Update
variable {α : Type} {n : ℕ} (x : S4x1024x3328.Idx → α) (u : (⟨3, ![4, 1024, n]⟩ : Shape).Idx → α) (st : Fin 3 → ℤ)
  (h : S4x1024x3328.Slices (fun _ => 0) ⟨3, ![4, 1024, n]⟩) (a : ℕ) (h0 : st 0 = 0) (h1 : st 1 = 0) (h2 : st 2 = (a : ℤ)) (ha : a + n ≤ 3328) (k : Fin 1024)
include h0 h1 h2 ha

/-- Where the columns that are put lie. -/
theorem starts : Host.clampedStart S4x1024x3328 (⟨3, ![4, 1024, n]⟩ : Shape) h.1 st 0 = 0
    ∧ Host.clampedStart S4x1024x3328 (⟨3, ![4, 1024, n]⟩ : Shape) h.1 st 1 = 0
    ∧ Host.clampedStart S4x1024x3328 (⟨3, ![4, 1024, n]⟩ : Shape) h.1 st 2 = a := by
  refine ⟨?_, ?_, ?_⟩
  · simp [Host.clampedStart, h0]
  · simp [Host.clampedStart, h1]
  · simp [Host.clampedStart, h2]; omega

/-- A column that is put. -/
theorem put_in (q : Fin n) : Host.dynamicUpdateSlice x u st h (ix3 1 k ⟨a + q, by omega⟩) = u (ix3 1 k q) := by
  obtain ⟨s0, s1, s2⟩ := starts st h a h0 h1 h2 ha
  rw [Host.dynamicUpdateSlice_apply, dif_pos]
  · refine congrArg u ?_
    funext b
    fin_cases b
    · exact Fin.ext (congrArg (1 - ·) s0)
    · exact Fin.ext (congrArg (k.val - ·) s1)
    · exact Fin.ext ((congrArg (a + q.val - ·) s2).trans (Nat.add_sub_cancel_left _ _))
  · intro b
    fin_cases b
    · exact ⟨s0.le.trans (Nat.zero_le _), (by decide : 1 < 0 + 4).trans_eq (congrArg (· + 4) s0.symm)⟩
    · exact ⟨s1.le.trans (Nat.zero_le _), (by omega : k.val < 0 + 1024).trans_eq (congrArg (· + 1024) s1.symm)⟩
    · exact ⟨s2.le.trans (Nat.le_add_right _ _), (by omega : a + q.val < a + n).trans_eq (congrArg (· + n) s2.symm)⟩

/-- A column outside. -/
theorem put_out (j : Fin 3328) (hj : j.val < a ∨ a + n ≤ j.val) : Host.dynamicUpdateSlice x u st h (ix3 1 k j) = x (ix3 1 k j) := by
  obtain ⟨s0, s1, s2⟩ := starts st h a h0 h1 h2 ha
  rw [Host.dynamicUpdateSlice_apply, dif_neg]
  intro hin
  have h2 := hin 2
  rw [s2] at h2
  have : a ≤ j.val ∧ j.val < a + n := h2
  omega
end Update

section At
variable (c : Dev nD)

set_option maxHeartbeats 4000000 in
/-- The latent tokens, then the context's. -/
theorem x_at (b : Fin 4) (n : Fin 4352) (k : Fin 1024) : V m c main_v148 (ix3 b n k)
    = (if hn : n.val < 4096 then xs m c (ix3 b ⟨n, hn⟩ k) else xcs m c (ix3 b ⟨n - 4096, by omega⟩ k) : EReal) := by
  unfold V
  simp only [List.flatten_cons, List.flatten_nil, List.append_nil]
  after_reads_simp
  pointwise [xs, xcs]

set_option maxHeartbeats 4000000 in
/-- The norm's weights of the layer. -/
theorem n_at (k : Fin 1024) : V m c main_v149 (ix3 1 0 k) = (nw m c (ix2 1 k) : EReal) := by
  unfold V
  simp only [List.flatten_cons, List.flatten_nil, List.append_nil]
  after_reads_simp
  pointwise [nw]

set_option maxHeartbeats 4000000 in
/-- The modulation vectors: a row for each batch's latent tokens, then the context's for each. -/
theorem m_at (q : Fin 8) (s : Fin 3) (j : Fin 1024) : V m c main_v4 (ix4 1 q s j)
    = (if hq : q.val < 4 then mods m c (ix2 ⟨q, hq⟩ ⟨s * 1024 + j, by omega⟩) else modc m c (ix1 ⟨s * 1024 + j, by omega⟩) : EReal) := by
  unfold V
  simp only [List.flatten_cons, List.flatten_nil, List.append_nil]
  after_reads_simp
  pointwise
  split
  · after_reads_simp
    pointwise [mods]
  · after_reads_simp
    pointwise [modc]

/-! ## The projection's columns -/

set_option maxHeartbeats 4000000 in
/-- Columns from 512 on. -/
theorem w_hi (k : Fin 1024) (j : Fin 2816) : V m c main_v17 (ix3 1 k ⟨512 + j, by omega⟩) = (wi m c (ix3 1 k ⟨416 + j, by omega⟩) : EReal) := by
  unfold V
  simp only [List.flatten_cons, List.flatten_nil, List.append_nil]
  after_reads_simp
  refine (put_in _ _ _ _ 512 rfl rfl rfl (by decide) k j).trans ?_
  pointwise [wi]

set_option maxHeartbeats 4000000 in
/-- The steps' eight columns. -/
theorem w_dt (k : Fin 1024) (j : Fin 8) : V m c main_v17 (ix3 1 k ⟨384 + j, by omega⟩) = (wi m c (ix3 1 k ⟨3232 + j, by omega⟩) : EReal) := by
  unfold V
  simp only [List.flatten_cons, List.flatten_nil, List.append_nil]
  after_reads_simp
  refine (put_out _ _ _ _ 512 rfl rfl rfl (by decide) k _ (.inl (by dsimp only; omega))).trans ?_
  refine (put_out _ _ _ _ 448 rfl rfl rfl (by decide) k _ (.inl (by dsimp only; omega))).trans ?_
  refine (put_in _ _ _ _ 384 rfl rfl rfl (by decide) k j).trans ?_
  pointwise [wi]

set_option maxHeartbeats 4000000 in
/-- The rotary key's columns. -/
theorem w_kr (k : Fin 1024) (j : Fin 32) : V m c main_v17 (ix3 1 k ⟨448 + j, by omega⟩) = (wi m c (ix3 1 k ⟨384 + j, by omega⟩) : EReal) := by
  unfold V
  simp only [List.flatten_cons, List.flatten_nil, List.append_nil]
  after_reads_simp
  refine (put_out _ _ _ _ 512 rfl rfl rfl (by decide) k _ (.inl (by dsimp only; omega))).trans ?_
  refine (put_in _ _ _ _ 448 rfl rfl rfl (by decide) k j).trans ?_
  pointwise [wi]

set_option maxHeartbeats 4000000 in
/-- The columns between are zero. -/
theorem w_z1 (k : Fin 1024) (j : Fin 56) : V m c main_v17 (ix3 1 k ⟨392 + j, by omega⟩) = (0 : EReal) := by
  unfold V
  simp only [List.flatten_cons, List.flatten_nil, List.append_nil]
  after_reads_simp
  refine (put_out _ _ _ _ 512 rfl rfl rfl (by decide) k _ (.inl (by dsimp only; omega))).trans ?_
  refine (put_out _ _ _ _ 448 rfl rfl rfl (by decide) k _ (.inl (by dsimp only; omega))).trans ?_
  refine (put_out _ _ _ _ 384 rfl rfl rfl (by decide) k _ (.inr (by dsimp only; omega))).trans ?_
  refine (put_out _ _ _ _ 0 rfl rfl rfl (by decide) k _ (.inr (by dsimp only; omega))).trans ?_
  pointwise

set_option maxHeartbeats 4000000 in
/-- So are the last ones before column 512. -/
theorem w_z2 (k : Fin 1024) (j : Fin 32) : V m c main_v17 (ix3 1 k ⟨480 + j, by omega⟩) = (0 : EReal) := by
  unfold V
  simp only [List.flatten_cons, List.flatten_nil, List.append_nil]
  after_reads_simp
  refine (put_out _ _ _ _ 512 rfl rfl rfl (by decide) k _ (.inl (by dsimp only; omega))).trans ?_
  refine (put_out _ _ _ _ 448 rfl rfl rfl (by decide) k _ (.inr (by dsimp only; omega))).trans ?_
  refine (put_out _ _ _ _ 384 rfl rfl rfl (by decide) k _ (.inr (by dsimp only; omega))).trans ?_
  refine (put_out _ _ _ _ 0 rfl rfl rfl (by decide) k _ (.inr (by dsimp only; omega))).trans ?_
  pointwise

/-! ## The steps' bias -/

set_option maxHeartbeats 4000000 in
/-- Eight lanes of bias, the others zero. -/
theorem b_at (l : Fin 128) : V m c main_v147 (ix3 1 4 ⟨l, by omega⟩)
    = (if hl : l.val < 8 then dtb m c (ix3 1 ⟨l / 4, by omega⟩ ⟨l % 4, by omega⟩) else 0 : EReal) := by
  unfold V
  simp only [List.flatten_cons, List.flatten_nil, List.append_nil]
  after_reads_simp
  simp only [Matrix.cons_val]
  generalize StableHlo.upto _ _ 217 (Proc.tc.devRef main_v141) = y0
  generalize StableHlo.upto _ _ 217 (Proc.tc.devRef main_v142) = y1
  generalize StableHlo.upto _ _ 217 (Proc.tc.devRef main_v143) = y2
  generalize StableHlo.upto _ _ 217 (Proc.tc.devRef main_v144) = y3
  generalize hy : StableHlo.upto _ _ 217 (Proc.tc.devRef main_v145) = y4
  simp -implicitDefEqProofs only [StableHlo.TRef.toBuf, StableHlo.TRef.ofBuf, cast_cast, cast_eq]
  clean_types
  pointwise
  rw [dif_pos (by omega : l.val < 256)]
  subst hy
  after_reads_at
  split_ifs <;> first | rfl | exact sitofp_zero (φ := .f32)

end At

end Cert.InPrefix

end
-- ==== Proof.InRef.lean ====
/- The input projection's reference at an index. -/
module

public import proofs.«01_k».proof.Proof.Gen.Reference3Ideal.Read
public import proofs.«01_k».proof.Proof.InBody
public import proofs.«01_k».proof.Proof.OutRef
public import Idealize.ShloMosaic.Lib.Pointwise

@[expose] public section

set_option maxRecDepth 16384

noncomputable section

namespace Cert.InRef

open Cert.Reference3Ideal Cert.Reference3Ideal.Read Idealize.ShloMosaic
open Cert.OutBody (rms c1024)
open Cert.OutRef (div1024)
open Cert.InBody (silu softplus)

variable (x0 : (⟨S4x4096x1024, .f32⟩ : BufTy).Contents (Elt Ideal)) (x1 : (⟨S4x256x1024, .f32⟩ : BufTy).Contents (Elt Ideal))
  (x2 : (⟨S4x3072, .f32⟩ : BufTy).Contents (Elt Ideal)) (x3 : (⟨S3072, .f32⟩ : BufTy).Contents (Elt Ideal))
  (x4 : (⟨S4x1024, .f32⟩ : BufTy).Contents (Elt Ideal)) (x5 : (⟨S4x1024x3240, .f32⟩ : BufTy).Contents (Elt Ideal))
  (x12 : (⟨S4x2x4, .f32⟩ : BufTy).Contents (Elt Ideal)) (b : Fin 4)

/-! ## The normalised and modulated rows -/

/-- A latent token's. -/
theorem lat_at (n : Fin 4096) (k : Fin 1024) : val_main_v28 x0 x2 x4 (ix3 b n k)
    = rms c1024 (fun k => x0 (ix3 b n k)) (fun k => x4 (ix2 1 k)) k * (1 + x2 (ix2 b ⟨1024 + k, by omega⟩)) + x2 (ix2 b ⟨k, by omega⟩) := by
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v1 val_main_v0 val_main_cst val_main_cst_0 val_main_cst_1 val_main_cst_2
  pointwise [rms, ← div1024]

/-- A context token's. -/
theorem ctx_at (n : Fin 256) (k : Fin 1024) : val_main_v51 x1 x3 x4 (ix3 b n k)
    = rms c1024 (fun k => x1 (ix3 b n k)) (fun k => x4 (ix2 1 k)) k * (1 + x3 (ix1 ⟨1024 + k, by omega⟩)) + x3 (ix1 ⟨k, by omega⟩) := by
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v4 val_main_v3 val_main_cst_3 val_main_cst_4 val_main_cst_5 val_main_cst_6
  pointwise [rms, ← div1024]

/-- The joined rows: latent tokens first. -/
theorem hid_at (n : Fin 4352) (k : Fin 1024) : val_main_v52 x0 x1 x2 x3 x4 (ix3 b n k)
    = if hn : n.val < 4096 then val_main_v28 x0 x2 x4 (ix3 b ⟨n, hn⟩ k) else val_main_v51 x1 x3 x4 (ix3 b ⟨n - 4096, by omega⟩ k) := by
  unfold val_main_v52
  generalize val_main_v28 x0 x2 x4 = y
  generalize val_main_v51 x1 x3 x4 = z
  pointwise

/-- A row against a column of the projection. -/
theorem proj_at (n : Fin 4352) (j : Fin 3240) : val_main_v55 x0 x1 x2 x3 x4 x5 (ix3 b n j)
    = ∑ k : Fin 1024, val_main_v52 x0 x1 x2 x3 x4 (ix3 b n k) * x5 (ix3 1 k j) := by
  unfold val_main_v55 val_main_v54 val_main_v53
  generalize val_main_v52 x0 x1 x2 x3 x4 = y
  pointwise

/-! ## The results -/

/-- The projection's column of a gate lane. -/
def gcol (j : Fin 1024) : Fin 3240 := ⟨(if j.val < 256 then 416 else if j.val < 512 then 928 else 1440) + j, by split_ifs <;> omega⟩

/-- The four gates side by side. -/
theorem gate_at (n : Fin 4352) (j : Fin 1024) : val_main_v71 x0 x1 x2 x3 x4 x5 (ix3 b n j) = val_main_v55 x0 x1 x2 x3 x4 x5 (ix3 b n (gcol j)) := by
  unfold val_main_v71 val_main_v68 val_main_v67 val_main_v63 val_main_v59
  generalize val_main_v55 x0 x1 x2 x3 x4 x5 = y
  have e : ∀ i i' : Fin 3240, i.val = i'.val → y (ix3 b n i) = y (ix3 b n i') := fun i i' h => congrArg (fun i => y (ix3 b n i)) (Fin.ext h)
  by_cases h0 : j.val < 256
  · pointwise [h0]
    exact e _ _ (by simp [gcol, h0])
  · by_cases h1 : j.val < 512
    · have h1' : j.val - 256 < 256 := by omega
      pointwise [h0, h1']
      exact e _ _ (by simp [gcol, h0, h1]; omega)
    · have h1' : ¬ j.val - 256 < 256 := by omega
      by_cases h2 : j.val < 768
      · have h2' : j.val - 256 - 256 < 256 := by omega
        pointwise [h0, h1', h2']
        exact e _ _ (by simp [gcol, h0, h1]; omega)
      · have h2' : ¬ j.val - 256 - 256 < 256 := by omega
        pointwise [h0, h1', h2']
        exact e _ _ (by simp [gcol, h0, h1]; omega)

/-- The gates. -/
theorem gates_at (n : Fin 4352) (j : Fin 1024) : val_main_v83 x0 x1 x2 x3 x4 x5 (ix3 b n j)
    = silu (val_main_v55 x0 x1 x2 x3 x4 x5 (ix3 b n (gcol j))) := by
  have hg := gate_at x0 x1 x2 x3 x4 x5 b n j
  unfold val_main_v83 val_main_v72 val_main_call0_v5 val_main_call0_v4 val_main_call0_v3 val_main_call0_v2 val_main_call0_v1 val_main_call0_v0 val_main_call0_cst val_main_call0_cst_0
  generalize val_main_v71 x0 x1 x2 x3 x4 x5 = y at *
  pointwise [silu, hg]

/-- The state-space inputs. -/
theorem xbc_at (n : Fin 4352) (j : Fin 768) : val_main_v69 x0 x1 x2 x3 x4 x5 (ix3 b n j)
    = val_main_v55 x0 x1 x2 x3 x4 x5 (ix3 b n ⟨2464 + j, by omega⟩) := by
  unfold val_main_v69
  generalize val_main_v55 x0 x1 x2 x3 x4 x5 = y
  pointwise

/-- What the step sizes are made of: eight lanes of steps, zeros, the rotary key, zeros. -/
def pre (n : Fin 4352) (j : Fin 128) : EReal :=
  if h0 : j.val < 8 then val_main_v55 x0 x1 x2 x3 x4 x5 (ix3 b n ⟨3232 + j, by omega⟩) + x12 (ix3 1 ⟨j / 4, by omega⟩ ⟨j % 4, by omega⟩)
  else if h1 : j.val < 64 then 0
  else if h2 : j.val < 96 then val_main_v55 x0 x1 x2 x3 x4 x5 (ix3 b n ⟨384 + (j - 64), by omega⟩)
  else 0

/-- The joined lanes. -/
theorem pre_at (n : Fin 4352) (j : Fin 128) : val_main_v81 x0 x1 x2 x3 x4 x5 x12 (ix3 b n j) = pre x0 x1 x2 x3 x4 x5 x12 b n j := by
  unfold val_main_v81 val_main_v80 val_main_v79 val_main_v78 val_main_v77 val_main_v76 val_main_v75 val_main_v74 val_main_v73 val_main_v70 val_main_v58 val_main_cst_7 val_main_cst_8 pre
  generalize val_main_v55 x0 x1 x2 x3 x4 x5 = y
  have e : ∀ i i' : Fin 3240, i.val = i'.val → y (ix3 b n i) = y (ix3 b n i') := fun i i' h => congrArg (fun i => y (ix3 b n i)) (Fin.ext h)
  by_cases h0 : j.val < 8
  · pointwise [h0]
  · by_cases h1 : j.val < 64
    · have h1' : j.val - 8 < 56 := by omega
      pointwise [h0, h1, h1']
    · have h1' : ¬ j.val - 8 < 56 := by omega
      by_cases h2 : j.val < 96
      · have h2' : j.val - 8 - 56 < 32 := by omega
        pointwise [h0, h1, h2, h1', h2']
        exact e _ _ (by dsimp only; omega)
      · have h2' : ¬ j.val - 8 - 56 < 32 := by omega
        pointwise [h0, h1, h2, h1', h2']

/-- The step sizes. -/
theorem dt_at (n : Fin 4352) (j : Fin 128) : val_main_v82 x0 x1 x2 x3 x4 x5 x12 (ix3 b n j) = softplus (pre x0 x1 x2 x3 x4 x5 x12 b n j) := by
  rw [← pre_at]
  unfold val_main_v82 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_cst
  generalize val_main_v81 x0 x1 x2 x3 x4 x5 x12 = y
  pointwise [softplus, sub_zero, InBody.absf_eq]
  rw [if_neg (by simp)]
  rfl

end Cert.InRef

end
-- ==== Proof.InTie.lean ====
/- The input projection's results are its reference's, index by index: a token's row is the reference's, and each column of the
   padded weights is a column of the given ones or zero. -/
module

public import proofs.«01_k».proof.Proof.InRun
public import proofs.«01_k».proof.Proof.InPrefix
public import proofs.«01_k».proof.Proof.InRef

@[expose] public section

set_option maxRecDepth 16384

noncomputable section

namespace Cert.InTie

open Cert.Kernel3Ideal Cert.Kernel3Ideal.Gen Idealize.ShloMosaic
open Cert.InPrefix Cert.InRun
open Cert.InBody (silu softplus)

variable (m : (ℓ : Loc nD τ sig) → Buf (Elt Ideal) ℓ) (c : Dev nD) (b : Fin 4) (n : Fin 4352)

/-- The reference's joined rows of the kernel's arguments. -/
def rows : S4x4352x1024.Idx → EReal := Reference3Ideal.Read.val_main_v52 (F := Ideal) (xs m c) (xcs m c) (mods m c) (modc m c) (nw m c)

/-- The reference's projection of them. -/
def proj (j : Fin 3240) : EReal :=
  Reference3Ideal.Read.val_main_v55 (F := Ideal) (xs m c) (xcs m c) (mods m c) (modc m c) (nw m c) (wi m c) (ix3 b n j)

/-! ## Rows -/

/-- A latent token's modulation is its own sample's. -/
theorem m_lat (hn : n.val < 4096) (s : Fin 3) (k : Fin 1024) :
    V m c main_v4 (ix4 1 (mrow b n) s k) = (mods m c (ix2 b ⟨s * 1024 + k, by omega⟩) : EReal) := by
  have e : mrow b n = ⟨b.val, by omega⟩ := Fin.ext (if_pos hn)
  rw [e, m_at, dif_pos b.isLt]

/-- A context token's modulation is the shared one. -/
theorem m_ctx (hn : ¬ n.val < 4096) (s : Fin 3) (k : Fin 1024) :
    V m c main_v4 (ix4 1 (mrow b n) s k) = (modc m c (ix1 ⟨s * 1024 + k, by omega⟩) : EReal) := by
  have e : mrow b n = ⟨4 + b.val % 2, by omega⟩ := Fin.ext (if_neg hn)
  rw [e, m_at, dif_neg (by dsimp only; omega)]

/-- A token's row is the reference's. -/
theorem hid_eq (k : Fin 1024) : hid m c b n k = rows m c (ix3 b n k) := by
  unfold rows
  rw [InRef.hid_at]
  unfold hid
  have e1 : ∀ h, (⟨(1 : Fin 3).val * 1024 + k.val, h⟩ : Fin 3072) = ⟨1024 + k.val, by omega⟩ := fun _ => Fin.ext (by simp)
  have e0 : ∀ h, (⟨(0 : Fin 3).val * 1024 + k.val, h⟩ : Fin 3072) = ⟨k.val, by omega⟩ := fun _ => Fin.ext (by simp)
  by_cases hn : n.val < 4096
  · rw [m_lat m c b n hn, m_lat m c b n hn, dif_pos hn, InRef.lat_at, e1, e0]
    exact congrArg₂ (fun f g : Fin 1024 → EReal => OutBody.rms OutBody.c1024 f g k * (1 + _) + _)
      (funext fun k => (x_at m c b n k).trans (dif_pos hn)) (funext fun k => n_at m c k)
  · rw [m_ctx m c b n hn, m_ctx m c b n hn, dif_neg hn, InRef.ctx_at, e1, e0]
    exact congrArg₂ (fun f g : Fin 1024 → EReal => OutBody.rms OutBody.c1024 f g k * (1 + _) + _)
      (funext fun k => (x_at m c b n k).trans (dif_neg hn)) (funext fun k => n_at m c k)

/-! ## Columns -/

/-- A column of the padded weights that is a column of the given ones. -/
theorem col_of (j : Fin 3328) (j' : Fin 3240) (hw : ∀ k : Fin 1024, V m c main_v17 (ix3 1 k j) = (wi m c (ix3 1 k j') : EReal)) :
    col m c b n j = proj m c b n j' := by
  unfold col proj
  rw [InRef.proj_at]
  exact Finset.sum_congr rfl fun k _ => congrArg₂ (fun x y : EReal => x * y) (hid_eq m c b n k) (hw k)

/-- A column of zeros. -/
theorem col_zero (j : Fin 3328) (hw : ∀ k : Fin 1024, V m c main_v17 (ix3 1 k j) = (0 : EReal)) : col m c b n j = 0 := by
  unfold col
  exact Finset.sum_eq_zero fun k _ => (congrArg (fun y : EReal => hid m c b n k * y) (hw k)).trans (mul_zero _)

/-- The columns from 512 on are the given ones from 416 on. -/
theorem col_hi (j : Fin 3328) (j' : Fin 3240) (h : 512 ≤ j.val) (h' : j'.val + 96 = j.val) : col m c b n j = proj m c b n j' := by
  refine col_of m c b n j j' fun k => ?_
  have := w_hi m c k ⟨j.val - 512, by omega⟩
  have e : (⟨512 + (j.val - 512), by omega⟩ : Fin 3328) = j := Fin.ext (by dsimp only; omega)
  have e' : (⟨416 + (j.val - 512), by omega⟩ : Fin 3240) = j' := Fin.ext (by dsimp only; omega)
  rw [e, e'] at this
  exact this

/-! ## The results -/

/-- The gates. -/
theorem gates (j : Fin 1024) : gatesA m c (ix3 b n j)
    = Reference3Ideal.Read.val_main_v83 (F := Ideal) (xs m c) (xcs m c) (mods m c) (modc m c) (nw m c) (wi m c) (ix3 b n j) := by
  rw [InRef.gates_at]
  refine congrArg silu (col_hi m c b n _ _ ?_ ?_)
  · show 512 ≤ (if j.val < 256 then 512 else if j.val < 512 then 1024 else 1536) + j.val
    split_ifs <;> omega
  · show (if j.val < 256 then 416 else if j.val < 512 then 928 else 1440) + j.val + 96
      = (if j.val < 256 then 512 else if j.val < 512 then 1024 else 1536) + j.val
    split_ifs <;> omega

/-- The state-space inputs. -/
theorem xbc (j : Fin 768) : xbcA m c (ix3 b n j)
    = Reference3Ideal.Read.val_main_v69 (F := Ideal) (xs m c) (xcs m c) (mods m c) (modc m c) (nw m c) (wi m c) (ix3 b n j) := by
  rw [InRef.xbc_at]
  refine col_hi m c b n _ _ ?_ ?_
  · show 512 ≤ 2304 + (256 + j.val)
    omega
  · show 2464 + j.val + 96 = 2304 + (256 + j.val)
    omega

/-- What the step sizes are made of, lane by lane. -/
theorem pre (j : Fin 128) : (col m c b n ⟨384 + j, by omega⟩ + V m c main_v147 (ix3 1 4 ⟨j, by omega⟩) : EReal)
    = InRef.pre (xs m c) (xcs m c) (mods m c) (modc m c) (nw m c) (wi m c) (dtb m c) b n j := by
  rw [b_at]
  unfold InRef.pre
  by_cases h0 : j.val < 8
  · rw [dif_pos h0, dif_pos h0]
    exact congrArg (fun x : EReal => x + _) (col_of m c b n _ _ fun k => w_dt m c k ⟨j, h0⟩)
  · rw [dif_neg h0, dif_neg h0, add_zero]
    by_cases h1 : j.val < 64
    · rw [dif_pos h1]
      refine col_zero m c b n _ fun k => ?_
      have := w_z1 m c k ⟨j.val - 8, by omega⟩
      have e : (⟨392 + (j.val - 8), by omega⟩ : Fin 3328) = ⟨384 + j, by omega⟩ := Fin.ext (by dsimp only; omega)
      rw [e] at this
      exact this
    · rw [dif_neg h1]
      by_cases h2 : j.val < 96
      · rw [dif_pos h2]
        refine col_of m c b n _ _ fun k => ?_
        have := w_kr m c k ⟨j.val - 64, by omega⟩
        have e : (⟨448 + (j.val - 64), by omega⟩ : Fin 3328) = ⟨384 + j, by omega⟩ := Fin.ext (by dsimp only; omega)
        rw [e] at this
        exact this
      · rw [dif_neg h2]
        refine col_zero m c b n _ fun k => ?_
        have := w_z2 m c k ⟨j.val - 96, by omega⟩
        have e : (⟨480 + (j.val - 96), by omega⟩ : Fin 3328) = ⟨384 + j, by omega⟩ := Fin.ext (by dsimp only; omega)
        rw [e] at this
        exact this

/-- The step sizes. -/
theorem steps (j : Fin 128) : dtA m c (ix3 b n j)
    = Reference3Ideal.Read.val_main_v82 (F := Ideal) (xs m c) (xcs m c) (mods m c) (modc m c) (nw m c) (wi m c) (dtb m c) (ix3 b n j) := by
  rw [InRef.dt_at]
  exact congrArg softplus (pre m c b n j)

end Cert.InTie

end
-- ==== Proof.lean ====
/- The claims of the three calls: the kernels, their idealizations and their references run and leave their arguments and
   counters as they were; each idealization is its kernel's own text; where the attention's queries and keys are real
   numbers its result is the reference's, element by element, and the output projection's result and the input projection's
   gates, state-space inputs and step sizes are their references' always. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Real
public import proofs.«01_k».proof.Proof.Tie
public import proofs.«01_k».proof.Proof.OutRun
public import proofs.«01_k».proof.Proof.OutRef
public import proofs.«01_k».proof.Proof.InTie
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run keeps its arguments, and it declares no counter. -/
theorem reference_frame : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems (by decide) r.2)) (Cert.ReferenceIdeal.Value.run m g)

/-- Two runs that end in the reference's own value of the arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.ReferenceIdeal.Value.res_main_v49 m' c, ?_, Cert.ReferenceIdeal.Value.run m' g'⟩
  refine (θ_run Cert.KernelIdeal.defs _ _).mono (fun r h c => ⟨(h c).1.trans ?_, (h c).2⟩) (Cert.KernelIdeal.Value.run_blocks m g)
  obtain ⟨p0, p1, p2, p3, p4, p5⟩ := hpre c
  obtain ⟨a0, a1, a2, a3, a4, a5, a6, a7, a8, a9, a10, a11⟩ := hargs c
  rw [Cert.Run.arr_eq]
  refine Eq.trans ?_ (Cert.ReferenceIdeal.Read.val_main_v49_eq m' c).symm
  rw [a0, a1, a2, a3, a4, a5, a6, a7, a8, a9, a10, a11]
  funext i
  have hi : i = ix3 (i (0 : Fin 3)) (i (1 : Fin 3)) (i (2 : Fin 3)) := by
    funext a; fin_cases a <;> rfl
  have key := Cert.Tie.lane m c (i (0 : Fin 3)) (i (1 : Fin 3)) (Cert.Real.of_compare _ _ p0) (Cert.Real.of_compare _ _ p1)
    (Cert.Real.of_compare _ _ p2) (Cert.Real.of_compare _ _ p3) (Cert.Real.of_compare _ _ p4) (Cert.Real.of_compare _ _ p5) (i (2 : Fin 3))
  refine key.trans ?_
  conv_rhs => rw [hi]
  rfl

/-- The output projection's reference keeps its arguments, and it declares no counter. -/
theorem reference2_frame : Cert.quiescent_Reference2Ideal (hReference2Ideal := Cert.Reference2Ideal.Gen.facts) := fun m g _ =>
  (θ_run (Cert.Reference2Ideal.defs (F := Ideal)) _ _).mono
    (fun r h => And.intro (fun c => (h c).2) (sem_eq_zero_of_no_sems (by decide) r.2)) (Cert.Reference2Ideal.Value.run m g)

/-- The output projection's result at an index is its reference's: the mean's division by a power of two is the kernel's
    product, and the sum over 1024 lanes is the kernel's three sums. -/
theorem out_eq (m : (ℓ : Loc Cert.Kernel2Ideal.nD Cert.Kernel2Ideal.τ Cert.Kernel2Ideal.sig) → Buf (Elt Ideal) ℓ) (c : Dev Cert.Kernel2Ideal.nD)
    (b : Fin 4) (n : Fin 4096) (j : Fin 1024) : Cert.OutRun.out m c b n j
      = Cert.Reference2Ideal.Read.val_main_v41 (F := Ideal) (OutPrefix.ya m c) (OutPrefix.yb m c) (OutPrefix.yc m c) (OutPrefix.fwd m c)
          (OutPrefix.bwd m c) (OutPrefix.zs m c) (OutPrefix.xs m c) (OutPrefix.mods m c) (OutPrefix.nw m c) (OutPrefix.wo m c) (OutPrefix.fw m c)
          (ix3 b n j) := by
  rw [Cert.OutRef.res_at]
  unfold Cert.OutRun.out Cert.OutRun.proj Cert.OutRun.scan
  simp only [Cert.OutRef.proj_split, Cert.OutRef.mix_at]

/-- Two runs of the output projection that end in its reference's own value of the arguments. -/
theorem algebraic2 : Cert.algebraic_Kernel2Ideal_Reference2Ideal (hKernel2Ideal := Cert.Kernel2Ideal.Gen.facts)
    (hReference2Ideal := Cert.Reference2Ideal.Gen.facts) := by
  intro m g m' g' hpre hargs
  refine ⟨fun c => Cert.Reference2Ideal.Value.res_main_v41 m' c, ?_, Cert.Reference2Ideal.Value.run m' g'⟩
  refine (θ_run Cert.Kernel2Ideal.defs _ _).mono (fun r h c => ⟨(h c).1.trans ?_, (h c).2⟩) (Cert.Kernel2Ideal.Value.run_blocks m g)
  obtain ⟨a0, a1, a2, a3, a4, a5, a6, a7, a8, a9, a10⟩ := hargs c
  rw [Cert.OutRun.arr_eq]
  refine Eq.trans ?_ (Cert.Reference2Ideal.Read.val_main_v41_eq m' c).symm
  rw [a0, a1, a2, a3, a4, a5, a6, a7, a8, a9, a10]
  funext i
  have hi : i = ix3 (i 0) (i 1) (i 2) := by funext a; fin_cases a <;> rfl
  refine (out_eq m c (i 0) (i 1) (i 2)).trans ?_
  conv_rhs => rw [hi]
  rfl

/-- The input projection's reference keeps its arguments, and it declares no counter. -/
theorem reference3_frame : Cert.quiescent_Reference3Ideal (hReference3Ideal := Cert.Reference3Ideal.Gen.facts) := fun m g _ =>
  (θ_run (Cert.Reference3Ideal.defs (F := Ideal)) _ _).mono
    (fun r h => And.intro (fun c => (h c).2.2.2) (sem_eq_zero_of_no_sems (by decide) r.2)) (Cert.Reference3Ideal.Value.run m g)

/-- Two runs of the input projection that end in its reference's own values of the arguments. -/
theorem algebraic3 : Cert.algebraic_Kernel3Ideal_Reference3Ideal (hKernel3Ideal := Cert.Kernel3Ideal.Gen.facts)
    (hReference3Ideal := Cert.Reference3Ideal.Gen.facts) := by
  intro m g m' g' hpre hargs
  refine ⟨fun c => Cert.Reference3Ideal.Value.res_main_v83 m' c, _, fun c => Cert.Reference3Ideal.Value.res_main_v82 m' c, ?_,
    Cert.Reference3Ideal.Value.run m' g'⟩
  refine (θ_run Cert.Kernel3Ideal.defs _ _).mono (fun r h c => ?_) (Cert.Kernel3Ideal.Value.run_blocks m g)
  obtain ⟨-, -, -, -, h0, h1, h2, hk⟩ := h c
  obtain ⟨a0, a1, a2, a3, a4, a5, a6, a7, a8, a9, a10, a11, a12⟩ := hargs c
  refine ⟨h0.trans ?_, h1.trans ?_, h2.trans ?_, hk⟩
  · rw [Cert.InRun.gates_eq]
    refine Eq.trans ?_ (Cert.Reference3Ideal.Read.val_main_v83_eq m' c).symm
    rw [a0, a1, a2, a3, a4, a5]
    funext i
    have hi : i = ix3 (i 0) (i 1) (i 2) := by funext a; fin_cases a <;> rfl
    refine Eq.trans ?_ ((Cert.InTie.gates m c (i 0) (i 1) (i 2)).trans ?_)
    · exact congrArg (Cert.InRun.gatesA m c) hi
    · conv_rhs => rw [hi]
      rfl
  · rw [Cert.InRun.xbc_eq]
    refine Eq.trans ?_ (Cert.Reference3Ideal.Read.val_main_v69_eq _ _ _ _ _ _).symm
    rw [a0, a1, a2, a3, a4, a5]
    funext i
    have hi : i = ix3 (i 0) (i 1) (i 2) := by funext a; fin_cases a <;> rfl
    refine Eq.trans ?_ ((Cert.InTie.xbc m c (i 0) (i 1) (i 2)).trans ?_)
    · exact congrArg (Cert.InRun.xbcA m c) hi
    · conv_rhs => rw [hi]
      rfl
  · rw [Cert.InRun.dt_eq]
    refine Eq.trans ?_ (Cert.Reference3Ideal.Read.val_main_v82_eq m' c).symm
    rw [a0, a1, a2, a3, a4, a5, a12]
    funext i
    have hi : i = ix3 (i 0) (i 1) (i 2) := by funext a; fin_cases a <;> rfl
    refine Eq.trans ?_ ((Cert.InTie.steps m c (i 0) (i 1) (i 2)).trans ?_)
    · exact congrArg (Cert.InRun.dtA m c) hi
    · conv_rhs => rw [hi]
      rfl

/-- Every claim of the three calls. -/
theorem claim : Cert.Claim := ⟨Kernel.Gen.facts, KernelIdeal.Gen.facts, ReferenceIdeal.Gen.facts, Kernel2.Gen.facts, Kernel2Ideal.Gen.facts,
  Reference2Ideal.Gen.facts, Kernel3.Gen.facts, Kernel3Ideal.Gen.facts, Reference3Ideal.Gen.facts, Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  trivial, algebraic, trivial, algebraic2, trivial, algebraic3⟩

end Cert.Proof

end
